-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normalisation_finite [hPre_normalisation_finite : Cert.Pre_normalisation_finite.Facts] (m : (ℓ : Loc Cert.KernelIdeal.nD Cert.KernelIdeal.τ Cert.KernelIdeal.sig) → Buf (Elt Ideal) ℓ) : Prop :=
  ∀ c : Dev Cert.KernelIdeal.nD,
    (Cert.Pre_normalisation_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normalisation_finite [hPre_normalisation_finite : Cert.Pre_normalisation_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normalisation_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_normalisation_finite [hKernelIdeal : Cert.KernelIdeal.Facts] [hPre_normalisation_finite : Cert.Pre_normalisation_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normalisation_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_normalisation_finite [hReferenceIdeal : Cert.ReferenceIdeal.Facts] [hPre_normalisation_finite : Cert.Pre_normalisation_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normalisation_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_normalisation_finite [hKernelIdeal : Cert.KernelIdeal.Facts] [hReferenceIdeal : Cert.ReferenceIdeal.Facts] [hPre_normalisation_finite : Cert.Pre_normalisation_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normalisation_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)) (v4 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v204) = v2 c
          ∧ r.2.mem ((c.tc : Thread Cert.ReferenceIdeal.nD Cert.ReferenceIdeal.τ).loc Cert.ReferenceIdeal.main_v271) = v3 c
          ∧ r.2.mem ((c.tc : Thread Cert.ReferenceIdeal.nD Cert.ReferenceIdeal.τ).loc Cert.ReferenceIdeal.main_v338) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_normalisation_finite : Cert.Pre_normalisation_finite.Facts),
    quiescent_Kernel (hKernel := hKernel)
    ∧ quiescent_KernelIdeal (hKernelIdeal := hKernelIdeal)
    ∧ quiescent_KernelIdeal_pre_normalisation_finite (hKernelIdeal := hKernelIdeal) (hPre_normalisation_finite := hPre_normalisation_finite)
    ∧ quiescent_ReferenceIdeal (hReferenceIdeal := hReferenceIdeal)
    ∧ quiescent_ReferenceIdeal_pre_normalisation_finite (hReferenceIdeal := hReferenceIdeal) (hPre_normalisation_finite := hPre_normalisation_finite)
    ∧ preserves_Kernel_KernelIdeal
    ∧ algebraic_KernelIdeal_ReferenceIdeal_pre_normalisation_finite (hKernelIdeal := hKernelIdeal) (hReferenceIdeal := hReferenceIdeal) (hPre_normalisation_finite := hPre_normalisation_finite)
-- ==== Pre_normalisation_finite.lean ====
abbrev S8x256x256x64 : Shape := ⟨4, ![8, 256, 256, 64]⟩
abbrev S3x3x64x64 : Shape := ⟨4, ![3, 3, 64, 64]⟩
abbrev S5x64 : Shape := ⟨2, ![5, 64]⟩
abbrev S_ : Shape := ⟨0, ![]⟩

class Facts : Prop where
  bcast_S_S5x64 : S_.BroadcastsInDim S5x64 (![] : Fin 0 → Fin S5x64.rank)

variable [Facts]

def fn {F : FTy → Type} [FloatOps F] (main_arg0 : FVec F S8x256x256x64 .f32) (main_arg1 : FVec F S3x3x64x64 .f32) (main_arg2 : FVec F S5x64 .f32) (main_arg3 : FVec F S5x64 .f32) (main_arg4 : FVec F S5x64 .f32) (main_arg5 : FVec F S5x64 .f32) : IVec S5x64 1 :=
  let main_cst : FVec F S_ .f32 := constant S_ .f32 0x3A83126F#32
  let main_v0 : FVec F S5x64 .f32 := broadcastInDim S5x64 ![] bcast_S_S5x64 main_cst
  let main_v1 : FVec F S5x64 .f32 := addf main_arg5 main_v0
  let main_v2 : FVec F S5x64 .f32 := Host.rsqrt main_v1
  let main_v3 : FVec F S5x64 .f32 := mulf main_arg2 main_v2
  let main_v4 : FVec F S5x64 .f32 := Host.absf main_v3
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_v7 : FVec F S5x64 .f32 := Host.absf main_arg4
  let main_cst_1 : FVec F S_ .f32 := constant S_ .f32 0x7F800000#32
  let main_v8 : FVec F S5x64 .f32 := broadcastInDim S5x64 ![] bcast_S_S5x64 main_cst_1
  let main_v9 : IVec S5x64 1 := cmpf .olt main_v7 main_v8
  let main_v10 : IVec S5x64 1 := andi main_v6 main_v9
  main_v10
-- ==== Kernel.lean ====
abbrev S8x256x256x64 : Shape := ⟨4, ![8, 256, 256, 64]⟩
abbrev S3x3x64x64 : Shape := ⟨4, ![3, 3, 64, 64]⟩
abbrev S5x64 : Shape := ⟨2, ![5, 64]⟩
abbrev S_ : Shape := ⟨0, ![]⟩
abbrev S5x128 : Shape := ⟨2, ![5, 128]⟩
abbrev S8x256x64x256 : Shape := ⟨4, ![8, 256, 64, 256]⟩
abbrev S8x288x160x128 : Shape := ⟨4, ![8, 288, 160, 128]⟩
abbrev S1x16x64x256 : Shape := ⟨4, ![1, 16, 64, 256]⟩
abbrev S1x16x160x128 : Shape := ⟨4, ![1, 16, 160, 128]⟩
abbrev S16x64x256 : Shape := ⟨3, ![16, 64, 256]⟩
abbrev S16x256x64 : Shape := ⟨3, ![16, 256, 64]⟩
abbrev S16x16x64 : Shape := ⟨3, ![16, 16, 64]⟩
abbrev S1x16x16x64 : Shape := ⟨4, ![1, 16, 16, 64]⟩
abbrev S16x144x64 : Shape := ⟨3, ![16, 144, 64]⟩
abbrev S1x16x144x64 : Shape := ⟨4, ![1, 16, 144, 64]⟩
abbrev S9x64x64 : Shape := ⟨3, ![9, 64, 64]⟩
abbrev S9x64x128 : Shape := ⟨3, ![9, 64, 128]⟩
abbrev S9x128x128 : Shape := ⟨3, ![9, 128, 128]⟩
abbrev S48x160x128 : Shape := ⟨3, ![48, 160, 128]⟩
abbrev S5x16x128x128 : Shape := ⟨4, ![5, 16, 128, 128]⟩
abbrev S16x160x128 : Shape := ⟨3, ![16, 160, 128]⟩
abbrev S2560x128 : Shape := ⟨2, ![2560, 128]⟩
abbrev S1x128x128 : Shape := ⟨3, ![1, 128, 128]⟩
abbrev S128x128 : Shape := ⟨2, ![128, 128]⟩
abbrev S16x128x128 : Shape := ⟨3, ![16, 128, 128]⟩
abbrev S1x16x128x128 : Shape := ⟨4, ![1, 16, 128, 128]⟩
abbrev S1x8x128x128 : Shape := ⟨4, ![1, 8, 128, 128]⟩
abbrev S8x128x128 : Shape := ⟨3, ![8, 128, 128]⟩
abbrev S1x128 : Shape := ⟨2, ![1, 128]⟩
abbrev S128 : Shape := ⟨1, ![128]⟩
abbrev S1x1x128 : Shape := ⟨3, ![1, 1, 128]⟩
abbrev S8x128x64 : Shape := ⟨3, ![8, 128, 64]⟩
abbrev S8x64x128 : Shape := ⟨3, ![8, 64, 128]⟩
abbrev S1x8x64x128 : Shape := ⟨4, ![1, 8, 64, 128]⟩

abbrev nBuf : Space → Nat
  | .hbm => 34
  | .vmem => 25
  | .smem => 0
  | _ => 0

abbrev bufTy : (tb : Table) → Fin (tcTables nBuf tb) → BufTy
  | .hbm, ⟨0, _⟩ => ⟨S8x256x256x64, .f32⟩
  | .hbm, ⟨1, _⟩ => ⟨S3x3x64x64, .f32⟩
  | .hbm, ⟨2, _⟩ => ⟨S5x64, .f32⟩
  | .hbm, ⟨3, _⟩ => ⟨S5x64, .f32⟩
  | .hbm, ⟨4, _⟩ => ⟨S5x64, .f32⟩
  | .hbm, ⟨5, _⟩ => ⟨S5x64, .f32⟩
  | .hbm, ⟨6, _⟩ => ⟨S_, .f32⟩
  | .hbm, ⟨7, _⟩ => ⟨S5x64, .f32⟩
  | .hbm, ⟨8, _⟩ => ⟨S5x64, .f32⟩
  | .hbm, ⟨9, _⟩ => ⟨S5x64, .f32⟩
  | .hbm, ⟨10, _⟩ => ⟨S5x64, .f32⟩
  | .hbm, ⟨11, _⟩ => ⟨S5x64, .f32⟩
  | .hbm, ⟨12, _⟩ => ⟨S5x64, .f32⟩
  | .hbm, ⟨13, _⟩ => ⟨S5x128, .f32⟩
  | .hbm, ⟨14, _⟩ => ⟨S5x128, .f32⟩
  | .hbm, ⟨15, _⟩ => ⟨S8x256x64x256, .f32⟩
  | .hbm, ⟨16, _⟩ => ⟨S8x288x160x128, .bf16⟩
  | .hbm, ⟨17, _⟩ => ⟨S9x64x64, .f32⟩
  | .hbm, ⟨18, _⟩ => ⟨S9x64x64, .bf16⟩
  | .hbm, ⟨19, _⟩ => ⟨S_, .bf16⟩
  | .hbm, ⟨20, _⟩ => ⟨S9x64x64, .bf16⟩
  | .hbm, ⟨21, _⟩ => ⟨S9x64x128, .bf16⟩
  | .hbm, ⟨22, _⟩ => ⟨S9x64x128, .bf16⟩
  | .hbm, ⟨23, _⟩ => ⟨S9x128x128, .bf16⟩
  | .hbm, ⟨24, _⟩ => ⟨S8x256x64x256, .f32⟩
  | .hbm, ⟨25, _⟩ => ⟨S8x256x64x256, .f32⟩
  | .hbm, ⟨26, _⟩ => ⟨S8x256x64x256, .f32⟩
  | .hbm, ⟨27, _⟩ => ⟨S8x256x64x256, .f32⟩
  | .hbm, ⟨28, _⟩ => ⟨S8x256x64x256, .f32⟩
  | .hbm, ⟨29, _⟩ => ⟨S8x256x256x64, .f32⟩
  | .hbm, ⟨30, _⟩ => ⟨S8x256x256x64, .f32⟩
  | .hbm, ⟨31, _⟩ => ⟨S8x256x256x64, .f32⟩
  | .hbm, ⟨32, _⟩ => ⟨S8x256x256x64, .f32⟩
  | .hbm, ⟨33, _⟩ => ⟨S8x256x256x64, .f32⟩
  | .local _ .vmem, ⟨0, _⟩ => ⟨S1x16x64x256, .f32⟩
  | .local _ .vmem, ⟨1, _⟩ => ⟨S1x16x64x256, .f32⟩
  | .local _ .vmem, ⟨2, _⟩ => ⟨S1x16x160x128, .bf16⟩
  | .local _ .vmem, ⟨3, _⟩ => ⟨S1x16x160x128, .bf16⟩
  | .local _ .vmem, ⟨4, _⟩ => ⟨S1x16x160x128, .bf16⟩
  | .local _ .vmem, ⟨5, _⟩ => ⟨S1x16x160x128, .bf16⟩
  | .local _ .vmem, ⟨6, _⟩ => ⟨S1x16x160x128, .bf16⟩
  | .local _ .vmem, ⟨7, _⟩ => ⟨S1x16x160x128, .bf16⟩
  | .local _ .vmem, ⟨8, _⟩ => ⟨S1x16x160x128, .bf16⟩
  | .local _ .vmem, ⟨9, _⟩ => ⟨S1x16x160x128, .bf16⟩
  | .local _ .vmem, ⟨10, _⟩ => ⟨S9x128x128, .bf16⟩
  | .local _ .vmem, ⟨11, _⟩ => ⟨S5x128, .f32⟩
  | .local _ .vmem, ⟨12, _⟩ => ⟨S5x128, .f32⟩
  | .local _ .vmem, ⟨13, _⟩ => ⟨S1x16x64x256, .f32⟩
  | .local _ .vmem, ⟨14, _⟩ => ⟨S1x16x64x256, .f32⟩
  | .local _ .vmem, ⟨15, _⟩ => ⟨S1x16x64x256, .f32⟩
  | .local _ .vmem, ⟨16, _⟩ => ⟨S1x16x64x256, .f32⟩
  | .local _ .vmem, ⟨17, _⟩ => ⟨S1x16x64x256, .f32⟩
  | .local _ .vmem, ⟨18, _⟩ => ⟨S1x16x64x256, .f32⟩
  | .local _ .vmem, ⟨19, _⟩ => ⟨S1x16x64x256, .f32⟩
  | .local _ .vmem, ⟨20, _⟩ => ⟨S1x16x64x256, .f32⟩
  | .local _ .vmem, ⟨21, _⟩ => ⟨S1x16x64x256, .f32⟩
  | .local _ .vmem, ⟨22, _⟩ => ⟨S1x16x64x256, .f32⟩
  | .local _ .vmem, ⟨23, _⟩ => ⟨S48x160x128, .f32⟩
  | .local _ .vmem, ⟨24, _⟩ => ⟨S5x16x128x128, .f32⟩
  | _, _ => ⟨S8x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg10_1 : Ref sig .tc := ⟨.vmem, 22, rfl⟩
abbrev cc1_scratch0 : Ref sig .tc := ⟨.vmem, 23, rfl⟩
abbrev cc1_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18
abbrev cc1_sem9_0 : DmaSem sig := 19
abbrev cc1_sem9_1 : DmaSem sig := 20
abbrev cc1_sem10_0 : DmaSem sig := 21
abbrev cc1_sem10_1 : DmaSem sig := 22

abbrev nD : Nat := 1
abbrev τ : Topo := Topo.v7x

variable {F : FTy → Type} [FloatOps F]

abbrev grid0 : Pipeline.Grid := ⟨2, ![8, 18], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![arg0.toNat, v2.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x160x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![arg0.toNat, v0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x160x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x160x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x160x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S9x128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S5x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S5x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x16x64x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x16x64x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x16x64x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x16x64x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x16x64x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== ReferenceIdeal.lean ====
abbrev S8x256x256x64 : Shape := ⟨4, ![8, 256, 256, 64]⟩
abbrev S3x3x64x64 : Shape := ⟨4, ![3, 3, 64, 64]⟩
abbrev S5x64 : Shape := ⟨2, ![5, 64]⟩
abbrev S_ : Shape := ⟨0, ![]⟩
abbrev S8x258x258x64 : Shape := ⟨4, ![8, 258, 258, 64]⟩
abbrev S1x1x64x64 : Shape := ⟨4, ![1, 1, 64, 64]⟩
abbrev S64x64 : Shape := ⟨2, ![64, 64]⟩
abbrev S1x64 : Shape := ⟨2, ![1, 64]⟩
abbrev S64 : Shape := ⟨1, ![64]⟩
abbrev S1x1x1x64 : Shape := ⟨4, ![1, 1, 1, 64]⟩
abbrev S8x260x260x64 : Shape := ⟨4, ![8, 260, 260, 64]⟩
abbrev S8x264x264x64 : Shape := ⟨4, ![8, 264, 264, 64]⟩
abbrev S8x272x272x64 : Shape := ⟨4, ![8, 272, 272, 64]⟩
abbrev S8x288x288x64 : Shape := ⟨4, ![8, 288, 288, 64]⟩

abbrev nBuf : Space → Nat
  | .hbm => 361
  | .vmem => 0
  | .smem => 0
  | _ => 0

abbrev hbmTy0_0 (i : Nat) : BufTy := match i % 128 with
  | 0 => ⟨S8x256x256x64, .f32⟩
  | 1 => ⟨S3x3x64x64, .f32⟩
  | 2 => ⟨S5x64, .f32⟩
  | 3 => ⟨S5x64, .f32⟩
  | 4 => ⟨S5x64, .f32⟩
  | 5 => ⟨S5x64, .f32⟩
  | 6 => ⟨S_, .f32⟩
  | 7 => ⟨S5x64, .f32⟩
  | 8 => ⟨S5x64, .f32⟩
  | 9 => ⟨S5x64, .f32⟩
  | 10 => ⟨S5x64, .f32⟩
  | 11 => ⟨S_, .f32⟩
  | 12 => ⟨S8x258x258x64, .f32⟩
  | 13 => ⟨S8x256x256x64, .f32⟩
  | 14 => ⟨S1x1x64x64, .f32⟩
  | 15 => ⟨S64x64, .f32⟩
  | 16 => ⟨S8x256x256x64, .f32⟩
  | 17 => ⟨S8x256x256x64, .f32⟩
  | 18 => ⟨S1x1x64x64, .f32⟩
  | 19 => ⟨S64x64, .f32⟩
  | 20 => ⟨S8x256x256x64, .f32⟩
  | 21 => ⟨S8x256x256x64, .f32⟩
  | 22 => ⟨S8x256x256x64, .f32⟩
  | 23 => ⟨S1x1x64x64, .f32⟩
  | 24 => ⟨S64x64, .f32⟩
  | 25 => ⟨S8x256x256x64, .f32⟩
  | 26 => ⟨S8x256x256x64, .f32⟩
  | 27 => ⟨S8x256x256x64, .f32⟩
  | 28 => ⟨S1x1x64x64, .f32⟩
  | 29 => ⟨S64x64, .f32⟩
  | 30 => ⟨S8x256x256x64, .f32⟩
  | 31 => ⟨S8x256x256x64, .f32⟩
  | 32 => ⟨S8x256x256x64, .f32⟩
  | 33 => ⟨S1x1x64x64, .f32⟩
  | 34 => ⟨S64x64, .f32⟩
  | 35 => ⟨S8x256x256x64, .f32⟩
  | 36 => ⟨S8x256x256x64, .f32⟩
  | 37 => ⟨S8x256x256x64, .f32⟩
  | 38 => ⟨S1x1x64x64, .f32⟩
  | 39 => ⟨S64x64, .f32⟩
  | 40 => ⟨S8x256x256x64, .f32⟩
  | 41 => ⟨S8x256x256x64, .f32⟩
  | 42 => ⟨S8x256x256x64, .f32⟩
  | 43 => ⟨S1x1x64x64, .f32⟩
  | 44 => ⟨S64x64, .f32⟩
  | 45 => ⟨S8x256x256x64, .f32⟩
  | 46 => ⟨S8x256x256x64, .f32⟩
  | 47 => ⟨S8x256x256x64, .f32⟩
  | 48 => ⟨S1x1x64x64, .f32⟩
  | 49 => ⟨S64x64, .f32⟩
  | 50 => ⟨S8x256x256x64, .f32⟩
  | 51 => ⟨S8x256x256x64, .f32⟩
  | 52 => ⟨S8x256x256x64, .f32⟩
  | 53 => ⟨S1x1x64x64, .f32⟩
  | 54 => ⟨S64x64, .f32⟩
  | 55 => ⟨S8x256x256x64, .f32⟩
  | 56 => ⟨S8x256x256x64, .f32⟩
  | 57 => ⟨S1x64, .f32⟩
  | 58 => ⟨S64, .f32⟩
  | 59 => ⟨S1x1x1x64, .f32⟩
  | 60 => ⟨S8x256x256x64, .f32⟩
  | 61 => ⟨S8x256x256x64, .f32⟩
  | 62 => ⟨S1x64, .f32⟩
  | 63 => ⟨S64, .f32⟩
  | 64 => ⟨S1x1x1x64, .f32⟩
  | 65 => ⟨S8x256x256x64, .f32⟩
  | 66 => ⟨S8x256x256x64, .f32⟩
  | 67 => ⟨S1x64, .f32⟩
  | 68 => ⟨S64, .f32⟩
  | 69 => ⟨S1x1x1x64, .f32⟩
  | 70 => ⟨S8x256x256x64, .f32⟩
  | 71 => ⟨S8x256x256x64, .f32⟩
  | 72 => ⟨S_, .f32⟩
  | 73 => ⟨S8x256x256x64, .f32⟩
  | 74 => ⟨S8x256x256x64, .f32⟩
  | 75 => ⟨S8x256x256x64, .f32⟩
  | 76 => ⟨S_, .f32⟩
  | 77 => ⟨S8x256x256x64, .f32⟩
  | 78 => ⟨S8x256x256x64, .f32⟩
  | 79 => ⟨S8x256x256x64, .f32⟩
  | 80 => ⟨S8x256x256x64, .f32⟩
  | 81 => ⟨S_, .f32⟩
  | 82 => ⟨S8x260x260x64, .f32⟩
  | 83 => ⟨S8x256x256x64, .f32⟩
  | 84 => ⟨S1x1x64x64, .f32⟩
  | 85 => ⟨S64x64, .f32⟩
  | 86 => ⟨S8x256x256x64, .f32⟩
  | 87 => ⟨S8x256x256x64, .f32⟩
  | 88 => ⟨S1x1x64x64, .f32⟩
  | 89 => ⟨S64x64, .f32⟩
  | 90 => ⟨S8x256x256x64, .f32⟩
  | 91 => ⟨S8x256x256x64, .f32⟩
  | 92 => ⟨S8x256x256x64, .f32⟩
  | 93 => ⟨S1x1x64x64, .f32⟩
  | 94 => ⟨S64x64, .f32⟩
  | 95 => ⟨S8x256x256x64, .f32⟩
  | 96 => ⟨S8x256x256x64, .f32⟩
  | 97 => ⟨S8x256x256x64, .f32⟩
  | 98 => ⟨S1x1x64x64, .f32⟩
  | 99 => ⟨S64x64, .f32⟩
  | 100 => ⟨S8x256x256x64, .f32⟩
  | 101 => ⟨S8x256x256x64, .f32⟩
  | 102 => ⟨S8x256x256x64, .f32⟩
  | 103 => ⟨S1x1x64x64, .f32⟩
  | 104 => ⟨S64x64, .f32⟩
  | 105 => ⟨S8x256x256x64, .f32⟩
  | 106 => ⟨S8x256x256x64, .f32⟩
  | 107 => ⟨S8x256x256x64, .f32⟩
  | 108 => ⟨S1x1x64x64, .f32⟩
  | 109 => ⟨S64x64, .f32⟩
  | 110 => ⟨S8x256x256x64, .f32⟩
  | 111 => ⟨S8x256x256x64, .f32⟩
  | 112 => ⟨S8x256x256x64, .f32⟩
  | 113 => ⟨S1x1x64x64, .f32⟩
  | 114 => ⟨S64x64, .f32⟩
  | 115 => ⟨S8x256x256x64, .f32⟩
  | 116 => ⟨S8x256x256x64, .f32⟩
  | 117 => ⟨S8x256x256x64, .f32⟩
  | 118 => ⟨S1x1x64x64, .f32⟩
  | 119 => ⟨S64x64, .f32⟩
  | 120 => ⟨S8x256x256x64, .f32⟩
  | 121 => ⟨S8x256x256x64, .f32⟩
  | 122 => ⟨S8x256x256x64, .f32⟩
  | 123 => ⟨S1x1x64x64, .f32⟩
  | 124 => ⟨S64x64, .f32⟩
  | 125 => ⟨S8x256x256x64, .f32⟩
  | 126 => ⟨S8x256x256x64, .f32⟩
  | 127 => ⟨S1x64, .f32⟩
  | _ => ⟨S8x256x256x64, .f32⟩

abbrev hbmTy0_1 (i : Nat) : BufTy := match i % 128 with
  | 0 => ⟨S64, .f32⟩
  | 1 => ⟨S1x1x1x64, .f32⟩
  | 2 => ⟨S8x256x256x64, .f32⟩
  | 3 => ⟨S8x256x256x64, .f32⟩
  | 4 => ⟨S1x64, .f32⟩
  | 5 => ⟨S64, .f32⟩
  | 6 => ⟨S1x1x1x64, .f32⟩
  | 7 => ⟨S8x256x256x64, .f32⟩
  | 8 => ⟨S8x256x256x64, .f32⟩
  | 9 => ⟨S1x64, .f32⟩
  | 10 => ⟨S64, .f32⟩
  | 11 => ⟨S1x1x1x64, .f32⟩
  | 12 => ⟨S8x256x256x64, .f32⟩
  | 13 => ⟨S8x256x256x64, .f32⟩
  | 14 => ⟨S_, .f32⟩
  | 15 => ⟨S8x256x256x64, .f32⟩
  | 16 => ⟨S8x256x256x64, .f32⟩
  | 17 => ⟨S8x256x256x64, .f32⟩
  | 18 => ⟨S_, .f32⟩
  | 19 => ⟨S8x256x256x64, .f32⟩
  | 20 => ⟨S8x256x256x64, .f32⟩
  | 21 => ⟨S8x256x256x64, .f32⟩
  | 22 => ⟨S8x256x256x64, .f32⟩
  | 23 => ⟨S_, .f32⟩
  | 24 => ⟨S8x264x264x64, .f32⟩
  | 25 => ⟨S8x256x256x64, .f32⟩
  | 26 => ⟨S1x1x64x64, .f32⟩
  | 27 => ⟨S64x64, .f32⟩
  | 28 => ⟨S8x256x256x64, .f32⟩
  | 29 => ⟨S8x256x256x64, .f32⟩
  | 30 => ⟨S1x1x64x64, .f32⟩
  | 31 => ⟨S64x64, .f32⟩
  | 32 => ⟨S8x256x256x64, .f32⟩
  | 33 => ⟨S8x256x256x64, .f32⟩
  | 34 => ⟨S8x256x256x64, .f32⟩
  | 35 => ⟨S1x1x64x64, .f32⟩
  | 36 => ⟨S64x64, .f32⟩
  | 37 => ⟨S8x256x256x64, .f32⟩
  | 38 => ⟨S8x256x256x64, .f32⟩
  | 39 => ⟨S8x256x256x64, .f32⟩
  | 40 => ⟨S1x1x64x64, .f32⟩
  | 41 => ⟨S64x64, .f32⟩
  | 42 => ⟨S8x256x256x64, .f32⟩
  | 43 => ⟨S8x256x256x64, .f32⟩
  | 44 => ⟨S8x256x256x64, .f32⟩
  | 45 => ⟨S1x1x64x64, .f32⟩
  | 46 => ⟨S64x64, .f32⟩
  | 47 => ⟨S8x256x256x64, .f32⟩
  | 48 => ⟨S8x256x256x64, .f32⟩
  | 49 => ⟨S8x256x256x64, .f32⟩
  | 50 => ⟨S1x1x64x64, .f32⟩
  | 51 => ⟨S64x64, .f32⟩
  | 52 => ⟨S8x256x256x64, .f32⟩
  | 53 => ⟨S8x256x256x64, .f32⟩
  | 54 => ⟨S8x256x256x64, .f32⟩
  | 55 => ⟨S1x1x64x64, .f32⟩
  | 56 => ⟨S64x64, .f32⟩
  | 57 => ⟨S8x256x256x64, .f32⟩
  | 58 => ⟨S8x256x256x64, .f32⟩
  | 59 => ⟨S8x256x256x64, .f32⟩
  | 60 => ⟨S1x1x64x64, .f32⟩
  | 61 => ⟨S64x64, .f32⟩
  | 62 => ⟨S8x256x256x64, .f32⟩
  | 63 => ⟨S8x256x256x64, .f32⟩
  | 64 => ⟨S8x256x256x64, .f32⟩
  | 65 => ⟨S1x1x64x64, .f32⟩
  | 66 => ⟨S64x64, .f32⟩
  | 67 => ⟨S8x256x256x64, .f32⟩
  | 68 => ⟨S8x256x256x64, .f32⟩
  | 69 => ⟨S1x64, .f32⟩
  | 70 => ⟨S64, .f32⟩
  | 71 => ⟨S1x1x1x64, .f32⟩
  | 72 => ⟨S8x256x256x64, .f32⟩
  | 73 => ⟨S8x256x256x64, .f32⟩
  | 74 => ⟨S1x64, .f32⟩
  | 75 => ⟨S64, .f32⟩
  | 76 => ⟨S1x1x1x64, .f32⟩
  | 77 => ⟨S8x256x256x64, .f32⟩
  | 78 => ⟨S8x256x256x64, .f32⟩
  | 79 => ⟨S1x64, .f32⟩
  | 80 => ⟨S64, .f32⟩
  | 81 => ⟨S1x1x1x64, .f32⟩
  | 82 => ⟨S8x256x256x64, .f32⟩
  | 83 => ⟨S8x256x256x64, .f32⟩
  | 84 => ⟨S_, .f32⟩
  | 85 => ⟨S8x256x256x64, .f32⟩
  | 86 => ⟨S8x256x256x64, .f32⟩
  | 87 => ⟨S8x256x256x64, .f32⟩
  | 88 => ⟨S_, .f32⟩
  | 89 => ⟨S8x256x256x64, .f32⟩
  | 90 => ⟨S8x256x256x64, .f32⟩
  | 91 => ⟨S8x256x256x64, .f32⟩
  | 92 => ⟨S8x256x256x64, .f32⟩
  | 93 => ⟨S_, .f32⟩
  | 94 => ⟨S8x272x272x64, .f32⟩
  | 95 => ⟨S8x256x256x64, .f32⟩
  | 96 => ⟨S1x1x64x64, .f32⟩
  | 97 => ⟨S64x64, .f32⟩
  | 98 => ⟨S8x256x256x64, .f32⟩
  | 99 => ⟨S8x256x256x64, .f32⟩
  | 100 => ⟨S1x1x64x64, .f32⟩
  | 101 => ⟨S64x64, .f32⟩
  | 102 => ⟨S8x256x256x64, .f32⟩
  | 103 => ⟨S8x256x256x64, .f32⟩
  | 104 => ⟨S8x256x256x64, .f32⟩
  | 105 => ⟨S1x1x64x64, .f32⟩
  | 106 => ⟨S64x64, .f32⟩
  | 107 => ⟨S8x256x256x64, .f32⟩
  | 108 => ⟨S8x256x256x64, .f32⟩
  | 109 => ⟨S8x256x256x64, .f32⟩
  | 110 => ⟨S1x1x64x64, .f32⟩
  | 111 => ⟨S64x64, .f32⟩
  | 112 => ⟨S8x256x256x64, .f32⟩
  | 113 => ⟨S8x256x256x64, .f32⟩
  | 114 => ⟨S8x256x256x64, .f32⟩
  | 115 => ⟨S1x1x64x64, .f32⟩
  | 116 => ⟨S64x64, .f32⟩
  | 117 => ⟨S8x256x256x64, .f32⟩
  | 118 => ⟨S8x256x256x64, .f32⟩
  | 119 => ⟨S8x256x256x64, .f32⟩
  | 120 => ⟨S1x1x64x64, .f32⟩
  | 121 => ⟨S64x64, .f32⟩
  | 122 => ⟨S8x256x256x64, .f32⟩
  | 123 => ⟨S8x256x256x64, .f32⟩
  | 124 => ⟨S8x256x256x64, .f32⟩
  | 125 => ⟨S1x1x64x64, .f32⟩
  | 126 => ⟨S64x64, .f32⟩
  | 127 => ⟨S8x256x256x64, .f32⟩
  | _ => ⟨S8x256x256x64, .f32⟩

abbrev hbmTy0_2 (i : Nat) : BufTy := match i % 128 with
  | 0 => ⟨S8x256x256x64, .f32⟩
  | 1 => ⟨S8x256x256x64, .f32⟩
  | 2 => ⟨S1x1x64x64, .f32⟩
  | 3 => ⟨S64x64, .f32⟩
  | 4 => ⟨S8x256x256x64, .f32⟩
  | 5 => ⟨S8x256x256x64, .f32⟩
  | 6 => ⟨S8x256x256x64, .f32⟩
  | 7 => ⟨S1x1x64x64, .f32⟩
  | 8 => ⟨S64x64, .f32⟩
  | 9 => ⟨S8x256x256x64, .f32⟩
  | 10 => ⟨S8x256x256x64, .f32⟩
  | 11 => ⟨S1x64, .f32⟩
  | 12 => ⟨S64, .f32⟩
  | 13 => ⟨S1x1x1x64, .f32⟩
  | 14 => ⟨S8x256x256x64, .f32⟩
  | 15 => ⟨S8x256x256x64, .f32⟩
  | 16 => ⟨S1x64, .f32⟩
  | 17 => ⟨S64, .f32⟩
  | 18 => ⟨S1x1x1x64, .f32⟩
  | 19 => ⟨S8x256x256x64, .f32⟩
  | 20 => ⟨S8x256x256x64, .f32⟩
  | 21 => ⟨S1x64, .f32⟩
  | 22 => ⟨S64, .f32⟩
  | 23 => ⟨S1x1x1x64, .f32⟩
  | 24 => ⟨S8x256x256x64, .f32⟩
  | 25 => ⟨S8x256x256x64, .f32⟩
  | 26 => ⟨S_, .f32⟩
  | 27 => ⟨S8x256x256x64, .f32⟩
  | 28 => ⟨S8x256x256x64, .f32⟩
  | 29 => ⟨S8x256x256x64, .f32⟩
  | 30 => ⟨S_, .f32⟩
  | 31 => ⟨S8x256x256x64, .f32⟩
  | 32 => ⟨S8x256x256x64, .f32⟩
  | 33 => ⟨S8x256x256x64, .f32⟩
  | 34 => ⟨S8x256x256x64, .f32⟩
  | 35 => ⟨S_, .f32⟩
  | 36 => ⟨S8x288x288x64, .f32⟩
  | 37 => ⟨S8x256x256x64, .f32⟩
  | 38 => ⟨S1x1x64x64, .f32⟩
  | 39 => ⟨S64x64, .f32⟩
  | 40 => ⟨S8x256x256x64, .f32⟩
  | 41 => ⟨S8x256x256x64, .f32⟩
  | 42 => ⟨S1x1x64x64, .f32⟩
  | 43 => ⟨S64x64, .f32⟩
  | 44 => ⟨S8x256x256x64, .f32⟩
  | 45 => ⟨S8x256x256x64, .f32⟩
  | 46 => ⟨S8x256x256x64, .f32⟩
  | 47 => ⟨S1x1x64x64, .f32⟩
  | 48 => ⟨S64x64, .f32⟩
  | 49 => ⟨S8x256x256x64, .f32⟩
  | 50 => ⟨S8x256x256x64, .f32⟩
  | 51 => ⟨S8x256x256x64, .f32⟩
  | 52 => ⟨S1x1x64x64, .f32⟩
  | 53 => ⟨S64x64, .f32⟩
  | 54 => ⟨S8x256x256x64, .f32⟩
  | 55 => ⟨S8x256x256x64, .f32⟩
  | 56 => ⟨S8x256x256x64, .f32⟩
  | 57 => ⟨S1x1x64x64, .f32⟩
  | 58 => ⟨S64x64, .f32⟩
  | 59 => ⟨S8x256x256x64, .f32⟩
  | 60 => ⟨S8x256x256x64, .f32⟩
  | 61 => ⟨S8x256x256x64, .f32⟩
  | 62 => ⟨S1x1x64x64, .f32⟩
  | 63 => ⟨S64x64, .f32⟩
  | 64 => ⟨S8x256x256x64, .f32⟩
  | 65 => ⟨S8x256x256x64, .f32⟩
  | 66 => ⟨S8x256x256x64, .f32⟩
  | 67 => ⟨S1x1x64x64, .f32⟩
  | 68 => ⟨S64x64, .f32⟩
  | 69 => ⟨S8x256x256x64, .f32⟩
  | 70 => ⟨S8x256x256x64, .f32⟩
  | 71 => ⟨S8x256x256x64, .f32⟩
  | 72 => ⟨S1x1x64x64, .f32⟩
  | 73 => ⟨S64x64, .f32⟩
  | 74 => ⟨S8x256x256x64, .f32⟩
  | 75 => ⟨S8x256x256x64, .f32⟩
  | 76 => ⟨S8x256x256x64, .f32⟩
  | 77 => ⟨S1x1x64x64, .f32⟩
  | 78 => ⟨S64x64, .f32⟩
  | 79 => ⟨S8x256x256x64, .f32⟩
  | 80 => ⟨S8x256x256x64, .f32⟩
  | 81 => ⟨S1x64, .f32⟩
  | 82 => ⟨S64, .f32⟩
  | 83 => ⟨S1x1x1x64, .f32⟩
  | 84 => ⟨S8x256x256x64, .f32⟩
  | 85 => ⟨S8x256x256x64, .f32⟩
  | 86 => ⟨S1x64, .f32⟩
  | 87 => ⟨S64, .f32⟩
  | 88 => ⟨S1x1x1x64, .f32⟩
  | 89 => ⟨S8x256x256x64, .f32⟩
  | 90 => ⟨S8x256x256x64, .f32⟩
  | 91 => ⟨S1x64, .f32⟩
  | 92 => ⟨S64, .f32⟩
  | 93 => ⟨S1x1x1x64, .f32⟩
  | 94 => ⟨S8x256x256x64, .f32⟩
  | 95 => ⟨S8x256x256x64, .f32⟩
  | 96 => ⟨S_, .f32⟩
  | 97 => ⟨S8x256x256x64, .f32⟩
  | 98 => ⟨S8x256x256x64, .f32⟩
  | 99 => ⟨S8x256x256x64, .f32⟩
  | 100 => ⟨S_, .f32⟩
  | 101 => ⟨S8x256x256x64, .f32⟩
  | 102 => ⟨S8x256x256x64, .f32⟩
  | 103 => ⟨S8x256x256x64, .f32⟩
  | 104 => ⟨S8x256x256x64, .f32⟩
  | _ => ⟨S8x256x256x64, .f32⟩

abbrev hbmTy (i : Nat) : BufTy := match i / 128 with
  | 0 => hbmTy0_0 i
  | 1 => hbmTy0_1 i
  | 2 => hbmTy0_2 i
  | _ => ⟨S8x256x256x64, .f32⟩

abbrev bufTy : (tb : Table) → Fin (tcTables nBuf tb) → BufTy
  | .hbm, ⟨i, _⟩ => hbmTy i
  | _, _ => ⟨S8x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_1 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_2 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_cst_4 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_cst_5 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_cst_6 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_cst_7 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_cst_8 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_cst_9 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_cst_10 : Ref sig .tc := ⟨.hbm, 282, rfl⟩
abbrev main_v265 : Ref sig .tc := ⟨.hbm, 283, rfl⟩
abbrev main_v266 : Ref sig .tc := ⟨.hbm, 284, rfl⟩
abbrev main_v267 : Ref sig .tc := ⟨.hbm, 285, rfl⟩
abbrev main_cst_11 : Ref sig .tc := ⟨.hbm, 286, rfl⟩
abbrev main_v268 : Ref sig .tc := ⟨.hbm, 287, rfl⟩
abbrev main_v269 : Ref sig .tc := ⟨.hbm, 288, rfl⟩
abbrev main_v270 : Ref sig .tc := ⟨.hbm, 289, rfl⟩
abbrev main_v271 : Ref sig .tc := ⟨.hbm, 290, rfl⟩
abbrev main_cst_12 : Ref sig .tc := ⟨.hbm, 291, rfl⟩
abbrev main_v272 : Ref sig .tc := ⟨.hbm, 292, rfl⟩
abbrev main_v273 : Ref sig .tc := ⟨.hbm, 293, rfl⟩
abbrev main_v274 : Ref sig .tc := ⟨.hbm, 294, rfl⟩
abbrev main_v275 : Ref sig .tc := ⟨.hbm, 295, rfl⟩
abbrev main_v276 : Ref sig .tc := ⟨.hbm, 296, rfl⟩
abbrev main_v277 : Ref sig .tc := ⟨.hbm, 297, rfl⟩
abbrev main_v278 : Ref sig .tc := ⟨.hbm, 298, rfl⟩
abbrev main_v279 : Ref sig .tc := ⟨.hbm, 299, rfl⟩
abbrev main_v280 : Ref sig .tc := ⟨.hbm, 300, rfl⟩
abbrev main_v281 : Ref sig .tc := ⟨.hbm, 301, rfl⟩
abbrev main_v282 : Ref sig .tc := ⟨.hbm, 302, rfl⟩
abbrev main_v283 : Ref sig .tc := ⟨.hbm, 303, rfl⟩
abbrev main_v284 : Ref sig .tc := ⟨.hbm, 304, rfl⟩
abbrev main_v285 : Ref sig .tc := ⟨.hbm, 305, rfl⟩
abbrev main_v286 : Ref sig .tc := ⟨.hbm, 306, rfl⟩
abbrev main_v287 : Ref sig .tc := ⟨.hbm, 307, rfl⟩
abbrev main_v288 : Ref sig .tc := ⟨.hbm, 308, rfl⟩
abbrev main_v289 : Ref sig .tc := ⟨.hbm, 309, rfl⟩
abbrev main_v290 : Ref sig .tc := ⟨.hbm, 310, rfl⟩
abbrev main_v291 : Ref sig .tc := ⟨.hbm, 311, rfl⟩
abbrev main_v292 : Ref sig .tc := ⟨.hbm, 312, rfl⟩
abbrev main_v293 : Ref sig .tc := ⟨.hbm, 313, rfl⟩
abbrev main_v294 : Ref sig .tc := ⟨.hbm, 314, rfl⟩
abbrev main_v295 : Ref sig .tc := ⟨.hbm, 315, rfl⟩
abbrev main_v296 : Ref sig .tc := ⟨.hbm, 316, rfl⟩
abbrev main_v297 : Ref sig .tc := ⟨.hbm, 317, rfl⟩
abbrev main_v298 : Ref sig .tc := ⟨.hbm, 318, rfl⟩
abbrev main_v299 : Ref sig .tc := ⟨.hbm, 319, rfl⟩
abbrev main_v300 : Ref sig .tc := ⟨.hbm, 320, rfl⟩
abbrev main_v301 : Ref sig .tc := ⟨.hbm, 321, rfl⟩
abbrev main_v302 : Ref sig .tc := ⟨.hbm, 322, rfl⟩
abbrev main_v303 : Ref sig .tc := ⟨.hbm, 323, rfl⟩
abbrev main_v304 : Ref sig .tc := ⟨.hbm, 324, rfl⟩
abbrev main_v305 : Ref sig .tc := ⟨.hbm, 325, rfl⟩
abbrev main_v306 : Ref sig .tc := ⟨.hbm, 326, rfl⟩
abbrev main_v307 : Ref sig .tc := ⟨.hbm, 327, rfl⟩
abbrev main_v308 : Ref sig .tc := ⟨.hbm, 328, rfl⟩
abbrev main_v309 : Ref sig .tc := ⟨.hbm, 329, rfl⟩
abbrev main_v310 : Ref sig .tc := ⟨.hbm, 330, rfl⟩
abbrev main_v311 : Ref sig .tc := ⟨.hbm, 331, rfl⟩
abbrev main_v312 : Ref sig .tc := ⟨.hbm, 332, rfl⟩
abbrev main_v313 : Ref sig .tc := ⟨.hbm, 333, rfl⟩
abbrev main_v314 : Ref sig .tc := ⟨.hbm, 334, rfl⟩
abbrev main_v315 : Ref sig .tc := ⟨.hbm, 335, rfl⟩
abbrev main_v316 : Ref sig .tc := ⟨.hbm, 336, rfl⟩
abbrev main_v317 : Ref sig .tc := ⟨.hbm, 337, rfl⟩
abbrev main_v318 : Ref sig .tc := ⟨.hbm, 338, rfl⟩
abbrev main_v319 : Ref sig .tc := ⟨.hbm, 339, rfl⟩
abbrev main_v320 : Ref sig .tc := ⟨.hbm, 340, rfl⟩
abbrev main_v321 : Ref sig .tc := ⟨.hbm, 341, rfl⟩
abbrev main_v322 : Ref sig .tc := ⟨.hbm, 342, rfl⟩
abbrev main_v323 : Ref sig .tc := ⟨.hbm, 343, rfl⟩
abbrev main_v324 : Ref sig .tc := ⟨.hbm, 344, rfl⟩
abbrev main_v325 : Ref sig .tc := ⟨.hbm, 345, rfl⟩
abbrev main_v326 : Ref sig .tc := ⟨.hbm, 346, rfl⟩
abbrev main_v327 : Ref sig .tc := ⟨.hbm, 347, rfl⟩
abbrev main_v328 : Ref sig .tc := ⟨.hbm, 348, rfl⟩
abbrev main_v329 : Ref sig .tc := ⟨.hbm, 349, rfl⟩
abbrev main_v330 : Ref sig .tc := ⟨.hbm, 350, rfl⟩
abbrev main_v331 : Ref sig .tc := ⟨.hbm, 351, rfl⟩
abbrev main_cst_13 : Ref sig .tc := ⟨.hbm, 352, rfl⟩
abbrev main_v332 : Ref sig .tc := ⟨.hbm, 353, rfl⟩
abbrev main_v333 : Ref sig .tc := ⟨.hbm, 354, rfl⟩
abbrev main_v334 : Ref sig .tc := ⟨.hbm, 355, rfl⟩
abbrev main_cst_14 : Ref sig .tc := ⟨.hbm, 356, rfl⟩
abbrev main_v335 : Ref sig .tc := ⟨.hbm, 357, rfl⟩
abbrev main_v336 : Ref sig .tc := ⟨.hbm, 358, rfl⟩
abbrev main_v337 : Ref sig .tc := ⟨.hbm, 359, rfl⟩
abbrev main_v338 : Ref sig .tc := ⟨.hbm, 360, rfl⟩

abbrev nD : Nat := 1
abbrev τ : Topo := Topo.v7x

variable {F : FTy → Type} [FloatOps F]
-- ==== Proof.Results.lean ====
/- The kernel program's run with its five results named: the launch ends with each result's array at the last boundary's contents. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs; each of its five results ends at what the last boundary holds there, and its arguments end unchanged. -/
theorem results : θ_run defs (onTc (τ := τ) (main (F := F))) ⟨m, fun _ => 0, ρ⟩ (fun r => ∀ c : Dev nD,
      r.2.mem ((c.tc : Thread nD τ).loc main_v17) = W5 m ρ c (Proc.devRef .tc main_v17)
      ∧ r.2.mem ((c.tc : Thread nD τ).loc main_v18) = W5 m ρ c (Proc.devRef .tc main_v18)
      ∧ r.2.mem ((c.tc : Thread nD τ).loc main_v19) = W5 m ρ c (Proc.devRef .tc main_v19)
      ∧ r.2.mem ((c.tc : Thread nD τ).loc main_v20) = W5 m ρ c (Proc.devRef .tc main_v20)
      ∧ r.2.mem ((c.tc : Thread nD τ).loc main_v21) = W5 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => ⟨h c _ (mem_uc main_v17 (by decide)),
      h c _ (mem_uc main_v18 (by decide)),
      h c _ (mem_uc main_v19 (by decide)),
      h c _ (mem_uc main_v20 (by decide)),
      h c _ (mem_uc main_v21 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c)⟩)

end Cert.KernelIdeal.Gen
-- ==== Proof.Pieces.lean ====
/- The two scratch buffers of the convolution's body, piece by piece, at the ideal values: the buffer of one tap's
   products (three stores of sixteen rows) and the buffer of five accumulators (one store per dilation and tap). Every
   fact is stated once, for any tap and any dilation. -/
module

public import proofs.«01_k».proof.Proof.Gen.KernelIdeal.Frame
public import Idealize.ShloMosaic.Lib.Pipeline.Value
public import Idealize.ShloMosaic.Lib.ValueIdx
public import Idealize.ShloMosaic.Lib.MatmulPlain

@[expose] public section

set_option maxRecDepth 16384

noncomputable section

namespace Cert.Value

open Idealize.ShloMosaic Idealize.ShloMosaic.ValueIdx
open Cert.KernelIdeal Cert.KernelIdeal.Gen

/-- The product of row `p`, column `q` of the padded image `X` with tap `t` of the weights `K`, at output lane `l`. -/
def pt (X K : ℕ → ℕ → ℕ → EReal) (t p q l : ℕ) : EReal := ∑ c : Fin 128, X p q c.val * K t c.val l

/-- The first row of tap `t`'s window at dilation `2 ^ e`. -/
def row (t e : ℕ) : ℕ := 16 + 2 ^ e * (t / 3) - 2 ^ e

/-- The first column of tap `t`'s window at dilation `2 ^ e`. -/
def col (t e : ℕ) : ℕ := 16 + 2 ^ e * (t % 3) - 2 ^ e

/-- The sum of the taps `0` to `t`, in that order, at dilation `2 ^ e`. -/
def part (X K : ℕ → ℕ → ℕ → EReal) : ℕ → ℕ → ℕ → ℕ → ℕ → EReal
  | 0, e, a, w, l => pt X K 0 (row 0 e + a) (col 0 e + w) l
  | t + 1, e, a, w, l => part X K t e a w l + pt X K (t + 1) (row (t + 1) e + a) (col (t + 1) e + w) l

/-- The accumulators once dilations below `n` have taken tap `t + 1` and the others only tap `t`. -/
def state (X K : ℕ → ℕ → ℕ → EReal) (t n d a w l : ℕ) : EReal :=
  if d < n then part X K (t + 1) d a w l else part X K t d a w l

/-- A list of stores leaves `g` in the buffer of one tap's products. -/
def PtIs (L : List (View.Piece (Elt Ideal) S48x160x128 .f32)) (g : ℕ → ℕ → ℕ → EReal) : Prop :=
  ∀ (p : Fin 48) (q : Fin 160) (l : Fin 128), View.canon L (ix3 p q l) = g p.val q.val l.val

/-- A list of stores leaves `f` in the first `n` accumulators. -/
def AccIs (L : List (View.Piece (Elt Ideal) S5x16x128x128 .f32)) (n : ℕ) (f : ℕ → ℕ → ℕ → ℕ → EReal) : Prop :=
  ∀ (d : Fin 5) (a : Fin 16) (w : Fin 128) (l : Fin 128), d.val < n → View.canon L (ix4 d a w l) = f d.val a.val w.val l.val

/-- Reading a window of the product buffer reads the shifted index. -/
theorem readPt (v : View sig .tc .vmem S48x160x128 .f32) {L : List (View.Piece (Elt Ideal) S48x160x128 .f32)}
    {g : ℕ → ℕ → ℕ → EReal} (hL : PtIs L g) (r0 c0 : ℕ)
    (h : ∀ x, (![r0, c0, 0] : Fin 3 → ℕ) x + S16x128x128.size x ≤ S48x160x128.size x)
    (a : Fin 16) (w l : Fin 128) :
    v.readCov L (Rect.unit (s := S48x160x128) ![r0, c0, 0] S16x128x128.size h).toLoadRect (ix3 a w l) = g (r0 + a.val) (c0 + w.val) l.val := by
  have h0 : r0 + 16 ≤ 48 := h 0
  have h1 : c0 + 128 ≤ 160 := h 1
  rw [View.readCov_eq_canon']
  have e : (Rect.unit (s := S48x160x128) ![r0, c0, 0] S16x128x128.size h).toLoadRect.idx (ix3 a w l)
      = ix3 (⟨r0 + a.val, by omega⟩ : Fin 48) (⟨c0 + w.val, by omega⟩ : Fin 160) l := by
    funext x; apply Fin.ext
    match x with
    | ⟨0, _⟩ => show r0 + 1 * a.val = r0 + a.val; omega
    | ⟨1, _⟩ => show c0 + 1 * w.val = c0 + w.val; omega
    | ⟨2, _⟩ => show 0 + 1 * l.val = l.val; omega
  show View.canon L _ = _
  rw [e, hL]

/-- Reading rows of one accumulator reads the shifted index. -/
theorem readAcc {m : ℕ} (v : View sig .tc .vmem S5x16x128x128 .f32) {L : List (View.Piece (Elt Ideal) S5x16x128x128 .f32)}
    {n : ℕ} {f : ℕ → ℕ → ℕ → ℕ → EReal} (hL : AccIs L n f) (d r : ℕ) (hd : d < n)
    (h : ∀ x, (![d, r, 0, 0] : Fin 4 → ℕ) x + (![1, m, 128, 128] : Fin 4 → ℕ) x ≤ S5x16x128x128.size x)
    (a : Fin m) (w l : Fin 128) :
    v.readCov L (Rect.unit (s := S5x16x128x128) ![d, r, 0, 0] ![1, m, 128, 128] h).toLoadRect (ix4 (0 : Fin 1) a w l)
      = f d (r + a.val) w.val l.val := by
  have h0 : d + 1 ≤ 5 := h 0
  have h1 : r + m ≤ 16 := h 1
  rw [View.readCov_eq_canon']
  have e : (Rect.unit (s := S5x16x128x128) ![d, r, 0, 0] ![1, m, 128, 128] h).toLoadRect.idx (ix4 (0 : Fin 1) a w l)
      = ix4 (⟨d, by omega⟩ : Fin 5) (⟨r + a.val, by omega⟩ : Fin 16) w l := by
    funext x; apply Fin.ext
    match x with
    | ⟨0, _⟩ => show d + 1 * 0 = d; omega
    | ⟨1, _⟩ => show r + 1 * a.val = r + a.val; omega
    | ⟨2, _⟩ => show 0 + 1 * w.val = w.val; omega
    | ⟨3, _⟩ => show 0 + 1 * l.val = l.val; omega
  show View.canon L _ = _
  rw [e, hL _ _ _ _ hd]

/-- A store of one accumulator leaves its payload there and the other accumulators as they were. -/
theorem canon_acc (L : List (View.Piece (Elt Ideal) S5x16x128x128 .f32)) (e : ℕ)
    (h : ∀ x, (![e, 0, 0, 0] : Fin 4 → ℕ) x + S1x16x128x128.size x ≤ S5x16x128x128.size x)
    (pay : Vec Ideal S1x16x128x128 .f32) (d : Fin 5) (a : Fin 16) (w l : Fin 128) :
    View.canon (⟨Rect.unit (s := S5x16x128x128) ![e, 0, 0, 0] S1x16x128x128.size h, pay⟩ :: L) (ix4 d a w l)
      = if d.val = e then pay (ix4 0 a w l) else View.canon L (ix4 d a w l) := by
  split
  · next hd =>
    have e1 : ix4 d a w l = (Rect.unit (s := S5x16x128x128) ![e, 0, 0, 0] S1x16x128x128.size h).emb (ix4 (0 : Fin 1) a w l) := by
      funext x; apply Fin.ext
      match x with
      | ⟨0, _⟩ => show d.val = e + 1 * 0; omega
      | ⟨1, _⟩ => show a.val = 0 + 1 * a.val; omega
      | ⟨2, _⟩ => show w.val = 0 + 1 * w.val; omega
      | ⟨3, _⟩ => show l.val = 0 + 1 * l.val; omega
    rw [e1]
    exact View.canon_cons_emb _ _ _ _
  · next hd =>
    refine View.canon_cons_of_not_mem _ L ?_
    rw [Rect.mem_set_unit]
    intro hx
    have := hx 0
    have h1 : e ≤ d.val ∧ d.val < e + 1 := this
    omega

/-- The accumulator's new payload at an index: what was there plus the tap's window. -/
theorem pay19_apply (win : Vec Ideal S16x128x128 .f32) (acc : Vec Ideal S1x16x128x128 .f32) (a : Fin 16) (w l : Fin 128) :
    k1_pay19 win acc (ix4 0 a w l) = acc (ix4 0 a w l) + win (ix3 a w l) := by
  unfold k1_pay19
  refine (shapeCast_addUnit_apply ![16, 128, 128] _ _ (ix4 0 a w l)).trans ?_
  have e : (fun b : Fin 3 => ix4 (0 : Fin 1) a w l b.succ) = ix3 a w l := by
    funext x; match x with | ⟨0, _⟩ => rfl | ⟨1, _⟩ => rfl | ⟨2, _⟩ => rfl
  refine (congrArg (addf (F := Ideal) _ win) e).trans ?_
  rw [addf_apply]
  refine congrArg (· + win (ix3 a w l)) ?_
  refine (shapeCast_dropUnit_apply ![16, 128, 128] acc _ (ix3 a w l)).trans (congrArg acc ?_)
  funext x; match x with | ⟨0, _⟩ => rfl | ⟨1, _⟩ => rfl | ⟨2, _⟩ => rfl | ⟨3, _⟩ => rfl

/-- The first tap's payload at an index: the tap's window. -/
theorem pay10_apply (win : Vec Ideal S16x128x128 .f32) (a : Fin 16) (w l : Fin 128) :
    k1_pay10 win (ix4 0 a w l) = win (ix3 a w l) := by
  unfold k1_pay10
  refine (shapeCast_addUnit_apply ![16, 128, 128] _ _ (ix4 0 a w l)).trans (congrArg win ?_)
  funext x; match x with | ⟨0, _⟩ => rfl | ⟨1, _⟩ => rfl | ⟨2, _⟩ => rfl

/-- The first tap's store of dilation `2 ^ e`. -/
theorem first_step {X K : ℕ → ℕ → ℕ → EReal} (v13 : View sig .tc .vmem S48x160x128 .f32)
    {P : List (View.Piece (Elt Ideal) S48x160x128 .f32)} {L : List (View.Piece (Elt Ideal) S5x16x128x128 .f32)}
    (e r0 c0 : ℕ) (he : r0 = row 0 e ∧ c0 = col 0 e) (hP : PtIs P (pt X K 0)) (hA : AccIs L e (part X K 0))
    {h : ∀ x, (![r0, c0, 0] : Fin 3 → ℕ) x + S16x128x128.size x ≤ S48x160x128.size x}
    {h' : ∀ x, (![e, 0, 0, 0] : Fin 4 → ℕ) x + S1x16x128x128.size x ≤ S5x16x128x128.size x} :
    AccIs (⟨Rect.unit (s := S5x16x128x128) ![e, 0, 0, 0] S1x16x128x128.size h',
        k1_pay10 (v13.readCov P (Rect.unit (s := S48x160x128) ![r0, c0, 0] S16x128x128.size h).toLoadRect)⟩ :: L) (e + 1) (part X K 0) := by
  intro d a w l hd
  obtain ⟨rfl, rfl⟩ := he
  rw [canon_acc]
  split
  · next hde => subst hde; rw [pay10_apply, readPt v13 hP]; rfl
  · exact hA d a w l (by omega)

/-- A later tap's store of dilation `2 ^ e`. -/
theorem acc_step {X K : ℕ → ℕ → ℕ → EReal} (v13 : View sig .tc .vmem S48x160x128 .f32) (v14 : View sig .tc .vmem S5x16x128x128 .f32)
    {P : List (View.Piece (Elt Ideal) S48x160x128 .f32)} {L : List (View.Piece (Elt Ideal) S5x16x128x128 .f32)}
    (t e r0 c0 : ℕ) (he5 : e < 5) (he : r0 = row (t + 1) e ∧ c0 = col (t + 1) e) (hP : PtIs P (pt X K (t + 1)))
    (hA : AccIs L 5 (state X K t e))
    {h : ∀ x, (![r0, c0, 0] : Fin 3 → ℕ) x + S16x128x128.size x ≤ S48x160x128.size x}
    {h' : ∀ x, (![e, 0, 0, 0] : Fin 4 → ℕ) x + S1x16x128x128.size x ≤ S5x16x128x128.size x} :
    AccIs (⟨Rect.unit (s := S5x16x128x128) ![e, 0, 0, 0] S1x16x128x128.size h',
        k1_pay19 (v13.readCov P (Rect.unit (s := S48x160x128) ![r0, c0, 0] S16x128x128.size h).toLoadRect)
          (v14.readCov L (Rect.unit (s := S5x16x128x128) ![e, 0, 0, 0] S1x16x128x128.size h').toLoadRect)⟩ :: L) 5 (state X K t (e + 1)) := by
  intro d a w l hd
  obtain ⟨rfl, rfl⟩ := he
  rw [canon_acc]
  split
  · next hde =>
    subst hde
    rw [pay19_apply, readPt v13 hP]
    refine (congrArg (· + _) (readAcc (m := 16) v14 hA d.val 0 hd h' a w l)).trans ?_
    simp only [state, lt_self_iff_false, if_false, Nat.lt_succ_self, if_true, part, Nat.zero_add]
  · next hde =>
    rw [hA d a w l hd]
    simp only [state]
    by_cases h1 : d.val < e
    · rw [if_pos h1, if_pos (by omega)]
    · rw [if_neg h1, if_neg (by omega)]

/-- Once all five dilations have taken a tap, the next tap starts. -/
theorem acc_start {X K : ℕ → ℕ → ℕ → EReal} {L : List (View.Piece (Elt Ideal) S5x16x128x128 .f32)} {t : ℕ}
    (hA : AccIs L 5 (part X K t)) : AccIs L 5 (state X K t 0) := by
  intro d a w l hd
  rw [hA d a w l hd]
  simp [state]

/-- A tap is taken once all five dilations have taken it. -/
theorem acc_done {X K : ℕ → ℕ → ℕ → EReal} {L : List (View.Piece (Elt Ideal) S5x16x128x128 .f32)} {t : ℕ}
    (hA : AccIs L 5 (state X K t 5)) : AccIs L 5 (part X K (t + 1)) := by
  intro d a w l hd
  rw [hA d a w l hd]
  simp [state, hd]

/-- One tap's product of sixteen rows, at an index. -/
theorem pay7_apply (blk : Vec Ideal S1x16x160x128 .bf16) (kt : Vec Ideal S1x128x128 .bf16) (a : Fin 16) (q : Fin 160) (l : Fin 128) :
    k1_pay7 blk kt (ix3 a q l) = ∑ c : Fin 128, blk (ix4 0 a q c) * kt (ix3 0 c l) := by
  unfold k1_pay7 k1_pay3 k1_pay6
  refine (shapeCast_apply _ _ (ix3 a q l) (ix3 a q l) rfl).trans ?_
  have ha := a.isLt
  have hq := q.isLt
  refine (shapeCast_apply _ _ (ix3 a q l) (ix2 (⟨a.val * 160 + q.val, by omega⟩ : Fin 2560) l) ?_).trans ?_
  · rw [Shape.rowMajor_val_two, Shape.rowMajor_val_three]; rfl
  refine (Ideal.matmul_plain_apply (M := 2560) (K := 128) (N := 128) none _ _ _ _ _).trans ?_
  have z : (constant (F := Ideal) S2560x128 .f32 0x00000000#32) (ix2 (⟨a.val * 160 + q.val, by omega⟩ : Fin 2560) l) = (0 : EReal) := by
    rw [constant_apply, Ideal.ofBits_zero_f32]
  rw [z, zero_add]
  refine Finset.sum_congr rfl fun c _ => ?_
  refine congrArg₂ (· * ·) ?_ ?_
  · refine (shapeCast_apply _ _ _ (ix3 a q c) ?_).trans ?_
    · rw [Shape.rowMajor_val_two, Shape.rowMajor_val_three]; rfl
    refine (shapeCast_dropUnit_apply ![16, 160, 128] blk _ (ix3 a q c)).trans (congrArg blk ?_)
    funext x; match x with | ⟨0, _⟩ => rfl | ⟨1, _⟩ => rfl | ⟨2, _⟩ => rfl | ⟨3, _⟩ => rfl
  · refine (shapeCast_dropUnit_apply ![128, 128] kt _ (ix2 c l)).trans (congrArg kt ?_)
    funext x; match x with | ⟨0, _⟩ => rfl | ⟨1, _⟩ => rfl | ⟨2, _⟩ => rfl

/-- A store of sixteen rows of products leaves its payload there and the other rows as they were. -/
theorem canon_pt (L : List (View.Piece (Elt Ideal) S48x160x128 .f32)) (r : ℕ)
    (h : ∀ x, (![r, 0, 0] : Fin 3 → ℕ) x + S16x160x128.size x ≤ S48x160x128.size x)
    (pay : Vec Ideal S16x160x128 .f32) (p : Fin 48) (q : Fin 160) (l : Fin 128) :
    View.canon (⟨Rect.unit (s := S48x160x128) ![r, 0, 0] S16x160x128.size h, pay⟩ :: L) (ix3 p q l)
      = if hp : r ≤ p.val ∧ p.val < r + 16 then pay (ix3 (⟨p.val - r, by omega⟩ : Fin 16) q l) else View.canon L (ix3 p q l) := by
  split
  · next hp =>
    have e1 : ix3 p q l = (Rect.unit (s := S48x160x128) ![r, 0, 0] S16x160x128.size h).emb (ix3 (⟨p.val - r, by omega⟩ : Fin 16) q l) := by
      funext x; apply Fin.ext
      match x with
      | ⟨0, _⟩ => show p.val = r + 1 * (p.val - r); omega
      | ⟨1, _⟩ => show q.val = 0 + 1 * q.val; omega
      | ⟨2, _⟩ => show l.val = 0 + 1 * l.val; omega
    rw [e1]
    exact View.canon_cons_emb _ _ _ _
  · next hp =>
    refine View.canon_cons_of_not_mem _ L ?_
    rw [Rect.mem_set_unit]
    intro hx
    exact hp (hx 0)

/-- The three stores of a tap's products leave the tap's products of all forty-eight rows. -/
theorem pt_step {X K : ℕ → ℕ → ℕ → EReal} (t : ℕ) {L : List (View.Piece (Elt Ideal) S48x160x128 .f32)}
    {b0 b1 b2 : Vec Ideal S1x16x160x128 .bf16} {kt : Vec Ideal S1x128x128 .bf16}
    (h0 : ∀ a q c, b0 (ix4 0 a q c) = X a.val q.val c.val) (h1 : ∀ a q c, b1 (ix4 0 a q c) = X (16 + a.val) q.val c.val)
    (h2 : ∀ a q c, b2 (ix4 0 a q c) = X (32 + a.val) q.val c.val) (hk : ∀ c l, kt (ix3 0 c l) = K t c.val l.val)
    {w0 : ∀ x, (![0, 0, 0] : Fin 3 → ℕ) x + S16x160x128.size x ≤ S48x160x128.size x}
    {w1 : ∀ x, (![16, 0, 0] : Fin 3 → ℕ) x + S16x160x128.size x ≤ S48x160x128.size x}
    {w2 : ∀ x, (![32, 0, 0] : Fin 3 → ℕ) x + S16x160x128.size x ≤ S48x160x128.size x} :
    PtIs (⟨Rect.unit (s := S48x160x128) ![32, 0, 0] S16x160x128.size w2, k1_pay7 b2 kt⟩ :: ⟨Rect.unit (s := S48x160x128) ![16, 0, 0] S16x160x128.size w1, k1_pay7 b1 kt⟩
      :: ⟨Rect.unit (s := S48x160x128) ![0, 0, 0] S16x160x128.size w0, k1_pay7 b0 kt⟩ :: L) (pt X K t) := by
  intro p q l
  have hp := p.isLt
  rw [canon_pt, canon_pt, canon_pt]
  unfold pt
  split
  · next g => rw [pay7_apply]; exact Finset.sum_congr rfl fun c _ => by rw [h2, hk]; congr 2; show 32 + (p.val - 32) = _; omega
  split
  · next g => rw [pay7_apply]; exact Finset.sum_congr rfl fun c _ => by rw [h1, hk]; congr 2; show 16 + (p.val - 16) = _; omega
  rw [dif_pos (by omega)]
  rw [pay7_apply]; exact Finset.sum_congr rfl fun c _ => by rw [h0, hk]; rfl

end Cert.Value
-- ==== Proof.Taps.lean ====
/- The body of the dilated convolution, store by store: after its nine taps the accumulators hold the nine taps' sums.
   The two scratch buffers' store lists are the ones the body's run names; each is closed by the one fact about a store
   of its kind (Pieces.lean). -/
module

public import proofs.«01_k».proof.Proof.Pieces

@[expose] public section

set_option maxRecDepth 16384

noncomputable section

namespace Cert.Value

open Idealize.ShloMosaic Idealize.ShloMosaic.ValueIdx
open Cert.KernelIdeal Cert.KernelIdeal.Gen

/-- A whole block of the padded image read through its buffer. -/
theorem read_image {arg : Memref sig .tc .vmem S1x16x160x128 .bf16} (harg : arg.IsWhole) (x : Vec Ideal S1x16x160x128 .bf16)
    (h : ∀ b, (![0, 0, 0, 0] : Fin 4 → ℕ) b + S1x16x160x128.size b ≤ S1x16x160x128.size b) (a : Fin 16) (q : Fin 160) (c : Fin 128) :
    View.readAt (Elt Ideal) arg.view (Rect.unit (s := S1x16x160x128) ![0, 0, 0, 0] S1x16x160x128.size h).toLoadRect (harg.unread x) (ix4 0 a q c)
      = x (ix4 0 a q c) := by
  rw [View.readAt_apply, harg.read_unread]
  refine congrArg x ?_
  funext b; apply Fin.ext
  match b with
  | ⟨0, _⟩ => rfl
  | ⟨1, _⟩ => show 0 + 1 * a.val = a.val; omega
  | ⟨2, _⟩ => show 0 + 1 * q.val = q.val; omega
  | ⟨3, _⟩ => show 0 + 1 * c.val = c.val; omega

/-- One tap's weights read through the weights' buffer. -/
theorem read_weights {arg : Memref sig .tc .vmem S9x128x128 .bf16} (harg : arg.IsWhole) (x : Vec Ideal S9x128x128 .bf16) (t : ℕ)
    (h : ∀ b, (![t, 0, 0] : Fin 3 → ℕ) b + S1x128x128.size b ≤ S9x128x128.size b) (ht : t < 9) (c l : Fin 128) :
    View.readAt (Elt Ideal) arg.view (Rect.unit (s := S9x128x128) ![t, 0, 0] S1x128x128.size h).toLoadRect (harg.unread x) (ix3 0 c l)
      = x (ix3 ⟨t, ht⟩ c l) := by
  rw [View.readAt_apply, harg.read_unread]
  refine congrArg x ?_
  funext b; apply Fin.ext
  match b with
  | ⟨0, _⟩ => show t + 1 * 0 = t; omega
  | ⟨1, _⟩ => show 0 + 1 * c.val = c.val; omega
  | ⟨2, _⟩ => show 0 + 1 * l.val = l.val; omega

section Body

variable (c : Dev nD) (arg2 : Memref sig .tc .vmem S1x16x160x128 .bf16) (harg2 : arg2.IsWhole)
  (arg3 : Memref sig .tc .vmem S1x16x160x128 .bf16) (harg3 : arg3.IsWhole)
  (arg4 : Memref sig .tc .vmem S1x16x160x128 .bf16) (harg4 : arg4.IsWhole)
  (arg5 : Memref sig .tc .vmem S9x128x128 .bf16) (harg5 : arg5.IsWhole)
  (arg13 : Memref sig .tc .vmem S48x160x128 .f32) (arg14 : Memref sig .tc .vmem S5x16x128x128 .f32)
  (x0 x1 x2 : Vec Ideal S1x16x160x128 .bf16) (x3 : Vec Ideal S9x128x128 .bf16)

/-- What the four operand blocks hold: sixteen rows each of the padded image `X`, and the weights `K`. -/
structure Blocks (X K : ℕ → ℕ → ℕ → EReal) : Prop where
  b0 : ∀ (a : Fin 16) (q : Fin 160) (l : Fin 128), x0 (ix4 0 a q l) = X a.val q.val l.val
  b1 : ∀ (a : Fin 16) (q : Fin 160) (l : Fin 128), x1 (ix4 0 a q l) = X (16 + a.val) q.val l.val
  b2 : ∀ (a : Fin 16) (q : Fin 160) (l : Fin 128), x2 (ix4 0 a q l) = X (32 + a.val) q.val l.val
  k : ∀ (t : Fin 9) (l o : Fin 128), x3 (ix3 t l o) = K t.val l.val o.val

variable {x0 x1 x2 x3} {X K : ℕ → ℕ → ℕ → EReal} (H : Blocks x0 x1 x2 x3 X K)
include H

/-- The products of tap 0 at the time its windows are read. -/
theorem pt_0 : PtIs (kernelRun1_A.sl.HS0_3 c arg2 harg2 arg3 harg3 arg4 harg4 arg5 harg5 x0 x1 x2 x3) (pt X K 0) :=
  pt_step 0 (fun a q l => (read_image harg2 x0 _ a q l).trans (H.b0 a q l)) (fun a q l => (read_image harg3 x1 _ a q l).trans (H.b1 a q l))
    (fun a q l => (read_image harg4 x2 _ a q l).trans (H.b2 a q l)) (fun a l => (read_weights harg5 x3 0 _ (by decide) a l).trans (H.k 0 a l))

/-- The products of tap 1 at the time its windows are read. -/
theorem pt_1 : PtIs (kernelRun1_A.sl.HS0_6 c arg2 harg2 arg3 harg3 arg4 harg4 arg5 harg5 x0 x1 x2 x3) (pt X K 1) :=
  pt_step 1 (fun a q l => (read_image harg2 x0 _ a q l).trans (H.b0 a q l)) (fun a q l => (read_image harg3 x1 _ a q l).trans (H.b1 a q l))
    (fun a q l => (read_image harg4 x2 _ a q l).trans (H.b2 a q l)) (fun a l => (read_weights harg5 x3 1 _ (by decide) a l).trans (H.k 1 a l))

/-- The products of tap 2 at the time its windows are read. -/
theorem pt_2 : PtIs (kernelRun1_A.sl.HS0_9 c arg2 harg2 arg3 harg3 arg4 harg4 arg5 harg5 x0 x1 x2 x3) (pt X K 2) :=
  pt_step 2 (fun a q l => (read_image harg2 x0 _ a q l).trans (H.b0 a q l)) (fun a q l => (read_image harg3 x1 _ a q l).trans (H.b1 a q l))
    (fun a q l => (read_image harg4 x2 _ a q l).trans (H.b2 a q l)) (fun a l => (read_weights harg5 x3 2 _ (by decide) a l).trans (H.k 2 a l))

/-- The products of tap 3 at the time its windows are read. -/
theorem pt_3 : PtIs (kernelRun1_A.sl.HS0_12 c arg2 harg2 arg3 harg3 arg4 harg4 arg5 harg5 x0 x1 x2 x3) (pt X K 3) :=
  pt_step 3 (fun a q l => (read_image harg2 x0 _ a q l).trans (H.b0 a q l)) (fun a q l => (read_image harg3 x1 _ a q l).trans (H.b1 a q l))
    (fun a q l => (read_image harg4 x2 _ a q l).trans (H.b2 a q l)) (fun a l => (read_weights harg5 x3 3 _ (by decide) a l).trans (H.k 3 a l))

/-- The products of tap 4 at the time its windows are read. -/
theorem pt_4 : PtIs (kernelRun1_A.sl.HS0_15 c arg2 harg2 arg3 harg3 arg4 harg4 arg5 harg5 x0 x1 x2 x3) (pt X K 4) :=
  pt_step 4 (fun a q l => (read_image harg2 x0 _ a q l).trans (H.b0 a q l)) (fun a q l => (read_image harg3 x1 _ a q l).trans (H.b1 a q l))
    (fun a q l => (read_image harg4 x2 _ a q l).trans (H.b2 a q l)) (fun a l => (read_weights harg5 x3 4 _ (by decide) a l).trans (H.k 4 a l))

/-- The products of tap 5 at the time its windows are read. -/
theorem pt_5 : PtIs (kernelRun1_A.sl.HS0_18 c arg2 harg2 arg3 harg3 arg4 harg4 arg5 harg5 x0 x1 x2 x3) (pt X K 5) :=
  pt_step 5 (fun a q l => (read_image harg2 x0 _ a q l).trans (H.b0 a q l)) (fun a q l => (read_image harg3 x1 _ a q l).trans (H.b1 a q l))
    (fun a q l => (read_image harg4 x2 _ a q l).trans (H.b2 a q l)) (fun a l => (read_weights harg5 x3 5 _ (by decide) a l).trans (H.k 5 a l))

/-- The products of tap 6 at the time its windows are read. -/
theorem pt_6 : PtIs (kernelRun1_A.sl.HS0_21 c arg2 harg2 arg3 harg3 arg4 harg4 arg5 harg5 x0 x1 x2 x3) (pt X K 6) :=
  pt_step 6 (fun a q l => (read_image harg2 x0 _ a q l).trans (H.b0 a q l)) (fun a q l => (read_image harg3 x1 _ a q l).trans (H.b1 a q l))
    (fun a q l => (read_image harg4 x2 _ a q l).trans (H.b2 a q l)) (fun a l => (read_weights harg5 x3 6 _ (by decide) a l).trans (H.k 6 a l))

/-- The products of tap 7 at the time its windows are read. -/
theorem pt_7 : PtIs (kernelRun1_A.sl.HS0_24 c arg2 harg2 arg3 harg3 arg4 harg4 arg5 harg5 x0 x1 x2 x3) (pt X K 7) :=
  pt_step 7 (fun a q l => (read_image harg2 x0 _ a q l).trans (H.b0 a q l)) (fun a q l => (read_image harg3 x1 _ a q l).trans (H.b1 a q l))
    (fun a q l => (read_image harg4 x2 _ a q l).trans (H.b2 a q l)) (fun a l => (read_weights harg5 x3 7 _ (by decide) a l).trans (H.k 7 a l))

/-- The products of tap 8 at the time its windows are read. -/
theorem pt_8 : PtIs (kernelRun1_A.sl.HS0_27 c arg2 harg2 arg3 harg3 arg4 harg4 arg5 harg5 x0 x1 x2 x3) (pt X K 8) :=
  pt_step 8 (fun a q l => (read_image harg2 x0 _ a q l).trans (H.b0 a q l)) (fun a q l => (read_image harg3 x1 _ a q l).trans (H.b1 a q l))
    (fun a q l => (read_image harg4 x2 _ a q l).trans (H.b2 a q l)) (fun a l => (read_weights harg5 x3 8 _ (by decide) a l).trans (H.k 8 a l))

/-- The accumulators after the first tap. -/
theorem acc_0 : AccIs (kernelRun1_A.sl.HS1_5 c arg2 harg2 arg3 harg3 arg4 harg4 arg5 harg5 arg13 x0 x1 x2 x3) 5 (part X K 0) :=
  have P := pt_0 c arg2 harg2 arg3 harg3 arg4 harg4 arg5 harg5 H
  first_step arg13.view 4 0 0 ⟨rfl, rfl⟩ P <| first_step arg13.view 3 8 8 ⟨rfl, rfl⟩ P <| first_step arg13.view 2 12 12 ⟨rfl, rfl⟩ P
    <| first_step arg13.view 1 14 14 ⟨rfl, rfl⟩ P <| first_step (L := []) arg13.view 0 15 15 ⟨rfl, rfl⟩ P fun d _ _ _ h => absurd h (Nat.not_lt_zero d.val)

/-- The accumulators after tap 1. -/
theorem acc_1 : AccIs (kernelRun1_A.sl.HS1_10 c arg2 harg2 arg3 harg3 arg4 harg4 arg5 harg5 arg13 arg14 x0 x1 x2 x3) 5 (part X K 1) :=
  have P := pt_1 c arg2 harg2 arg3 harg3 arg4 harg4 arg5 harg5 H
  acc_done <| acc_step arg13.view arg14.view 0 4 0 16 (by decide) ⟨rfl, rfl⟩ P <|
    acc_step arg13.view arg14.view 0 3 8 16 (by decide) ⟨rfl, rfl⟩ P <|
    acc_step arg13.view arg14.view 0 2 12 16 (by decide) ⟨rfl, rfl⟩ P <|
    acc_step arg13.view arg14.view 0 1 14 16 (by decide) ⟨rfl, rfl⟩ P <|
    acc_step arg13.view arg14.view 0 0 15 16 (by decide) ⟨rfl, rfl⟩ P <|
    acc_start (acc_0 c arg2 harg2 arg3 harg3 arg4 harg4 arg5 harg5 arg13 H)

/-- The accumulators after tap 2. -/
theorem acc_2 : AccIs (kernelRun1_A.sl.HS1_15 c arg2 harg2 arg3 harg3 arg4 harg4 arg5 harg5 arg13 arg14 x0 x1 x2 x3) 5 (part X K 2) :=
  have P := pt_2 c arg2 harg2 arg3 harg3 arg4 harg4 arg5 harg5 H
  acc_done <| acc_step arg13.view arg14.view 1 4 0 32 (by decide) ⟨rfl, rfl⟩ P <|
    acc_step arg13.view arg14.view 1 3 8 24 (by decide) ⟨rfl, rfl⟩ P <|
    acc_step arg13.view arg14.view 1 2 12 20 (by decide) ⟨rfl, rfl⟩ P <|
    acc_step arg13.view arg14.view 1 1 14 18 (by decide) ⟨rfl, rfl⟩ P <|
    acc_step arg13.view arg14.view 1 0 15 17 (by decide) ⟨rfl, rfl⟩ P <|
    acc_start (acc_1 c arg2 harg2 arg3 harg3 arg4 harg4 arg5 harg5 arg13 arg14 H)

/-- The accumulators after tap 3. -/
theorem acc_3 : AccIs (kernelRun1_A.sl.HS1_20 c arg2 harg2 arg3 harg3 arg4 harg4 arg5 harg5 arg13 arg14 x0 x1 x2 x3) 5 (part X K 3) :=
  have P := pt_3 c arg2 harg2 arg3 harg3 arg4 harg4 arg5 harg5 H
  acc_done <| acc_step arg13.view arg14.view 2 4 16 0 (by decide) ⟨rfl, rfl⟩ P <|
    acc_step arg13.view arg14.view 2 3 16 8 (by decide) ⟨rfl, rfl⟩ P <|
    acc_step arg13.view arg14.view 2 2 16 12 (by decide) ⟨rfl, rfl⟩ P <|
    acc_step arg13.view arg14.view 2 1 16 14 (by decide) ⟨rfl, rfl⟩ P <|
    acc_step arg13.view arg14.view 2 0 16 15 (by decide) ⟨rfl, rfl⟩ P <|
    acc_start (acc_2 c arg2 harg2 arg3 harg3 arg4 harg4 arg5 harg5 arg13 arg14 H)

/-- The accumulators after tap 4. -/
theorem acc_4 : AccIs (kernelRun1_A.sl.HS1_25 c arg2 harg2 arg3 harg3 arg4 harg4 arg5 harg5 arg13 arg14 x0 x1 x2 x3) 5 (part X K 4) :=
  have P := pt_4 c arg2 harg2 arg3 harg3 arg4 harg4 arg5 harg5 H
  acc_done <| acc_step arg13.view arg14.view 3 4 16 16 (by decide) ⟨rfl, rfl⟩ P <|
    acc_step arg13.view arg14.view 3 3 16 16 (by decide) ⟨rfl, rfl⟩ P <|
    acc_step arg13.view arg14.view 3 2 16 16 (by decide) ⟨rfl, rfl⟩ P <|
    acc_step arg13.view arg14.view 3 1 16 16 (by decide) ⟨rfl, rfl⟩ P <|
    acc_step arg13.view arg14.view 3 0 16 16 (by decide) ⟨rfl, rfl⟩ P <|
    acc_start (acc_3 c arg2 harg2 arg3 harg3 arg4 harg4 arg5 harg5 arg13 arg14 H)

/-- The accumulators after tap 5. -/
theorem acc_5 : AccIs (kernelRun1_A.sl.HS1_30 c arg2 harg2 arg3 harg3 arg4 harg4 arg5 harg5 arg13 arg14 x0 x1 x2 x3) 5 (part X K 5) :=
  have P := pt_5 c arg2 harg2 arg3 harg3 arg4 harg4 arg5 harg5 H
  acc_done <| acc_step arg13.view arg14.view 4 4 16 32 (by decide) ⟨rfl, rfl⟩ P <|
    acc_step arg13.view arg14.view 4 3 16 24 (by decide) ⟨rfl, rfl⟩ P <|
    acc_step arg13.view arg14.view 4 2 16 20 (by decide) ⟨rfl, rfl⟩ P <|
    acc_step arg13.view arg14.view 4 1 16 18 (by decide) ⟨rfl, rfl⟩ P <|
    acc_step arg13.view arg14.view 4 0 16 17 (by decide) ⟨rfl, rfl⟩ P <|
    acc_start (acc_4 c arg2 harg2 arg3 harg3 arg4 harg4 arg5 harg5 arg13 arg14 H)

/-- The accumulators after tap 6. -/
theorem acc_6 : AccIs (kernelRun1_A.sl.HS1_35 c arg2 harg2 arg3 harg3 arg4 harg4 arg5 harg5 arg13 arg14 x0 x1 x2 x3) 5 (part X K 6) :=
  have P := pt_6 c arg2 harg2 arg3 harg3 arg4 harg4 arg5 harg5 H
  acc_done <| acc_step arg13.view arg14.view 5 4 32 0 (by decide) ⟨rfl, rfl⟩ P <|
    acc_step arg13.view arg14.view 5 3 24 8 (by decide) ⟨rfl, rfl⟩ P <|
    acc_step arg13.view arg14.view 5 2 20 12 (by decide) ⟨rfl, rfl⟩ P <|
    acc_step arg13.view arg14.view 5 1 18 14 (by decide) ⟨rfl, rfl⟩ P <|
    acc_step arg13.view arg14.view 5 0 17 15 (by decide) ⟨rfl, rfl⟩ P <|
    acc_start (acc_5 c arg2 harg2 arg3 harg3 arg4 harg4 arg5 harg5 arg13 arg14 H)

/-- The accumulators after tap 7. -/
theorem acc_7 : AccIs (kernelRun1_A.sl.HS1_40 c arg2 harg2 arg3 harg3 arg4 harg4 arg5 harg5 arg13 arg14 x0 x1 x2 x3) 5 (part X K 7) :=
  have P := pt_7 c arg2 harg2 arg3 harg3 arg4 harg4 arg5 harg5 H
  acc_done <| acc_step arg13.view arg14.view 6 4 32 16 (by decide) ⟨rfl, rfl⟩ P <|
    acc_step arg13.view arg14.view 6 3 24 16 (by decide) ⟨rfl, rfl⟩ P <|
    acc_step arg13.view arg14.view 6 2 20 16 (by decide) ⟨rfl, rfl⟩ P <|
    acc_step arg13.view arg14.view 6 1 18 16 (by decide) ⟨rfl, rfl⟩ P <|
    acc_step arg13.view arg14.view 6 0 17 16 (by decide) ⟨rfl, rfl⟩ P <|
    acc_start (acc_6 c arg2 harg2 arg3 harg3 arg4 harg4 arg5 harg5 arg13 arg14 H)

/-- The accumulators after tap 8. -/
theorem acc_8 : AccIs (kernelRun1_A.sl.HS1_45 c arg2 harg2 arg3 harg3 arg4 harg4 arg5 harg5 arg13 arg14 x0 x1 x2 x3) 5 (part X K 8) :=
  have P := pt_8 c arg2 harg2 arg3 harg3 arg4 harg4 arg5 harg5 H
  acc_done <| acc_step arg13.view arg14.view 7 4 32 32 (by decide) ⟨rfl, rfl⟩ P <|
    acc_step arg13.view arg14.view 7 3 24 24 (by decide) ⟨rfl, rfl⟩ P <|
    acc_step arg13.view arg14.view 7 2 20 20 (by decide) ⟨rfl, rfl⟩ P <|
    acc_step arg13.view arg14.view 7 1 18 18 (by decide) ⟨rfl, rfl⟩ P <|
    acc_step arg13.view arg14.view 7 0 17 17 (by decide) ⟨rfl, rfl⟩ P <|
    acc_start (acc_7 c arg2 harg2 arg3 harg3 arg4 harg4 arg5 harg5 arg13 arg14 H)

end Body

end Cert.Value
-- ==== Proof.Epilogue.lean ====
/- The end of the dilated convolution's body: each accumulator scaled, shifted, through the GELU, and stored transposed, the
   two halves of its lanes into the two halves of the output's columns. -/
module

public import proofs.«01_k».proof.Proof.Taps

@[expose] public section

set_option maxRecDepth 16384

noncomputable section

namespace Cert.Value

open Idealize.ShloMosaic Idealize.ShloMosaic.ValueIdx
open Cert.KernelIdeal Cert.KernelIdeal.Gen

/-- The exact GELU as the kernel computes it: `z / 2 * (1 + erf (z * c))`, `c` the single-precision root of one half. -/
def gelu (z : EReal) : EReal :=
  (Ideal.ofBits .f32 0x3F000000#32 * z) * (Ideal.ofBits .f32 0x3F800000#32 + Ideal.erf (z * Ideal.ofBits .f32 0x3F3504F3#32))

/-- Eight rows of an accumulator scaled, shifted and through the GELU, at an index. -/
theorem pay98_apply (acc : Vec Ideal S1x8x128x128 .f32) (sc sh : Vec Ideal S1x128 .f32) (a : Fin 8) (w l : Fin 128) :
    k1_pay98 acc sc sh (ix3 a w l) = gelu (acc (ix4 0 a w l) * sc (ix2 0 l) + sh (ix2 0 l)) := by
  have hb : ∀ (v : Vec Ideal S1x128 .f32) (h1 : S1x128.ShapeCasts S128) (h2 : S128.ShapeCasts S1x1x128) (h3 : S1x1x128.Broadcasts S8x128x128),
      broadcastTo S8x128x128 (shapeCast S1x1x128 (shapeCast S128 v h1) h2) h3 (ix3 a w l) = v (ix2 0 l) := by
    intro v h1 h2 h3
    refine (broadcastTo_apply _ h3 (ix3 a w l) (ix3 (0 : Fin 1) (0 : Fin 1) l) fun b => ?_).trans ?_
    · match b with | ⟨0, _⟩ => rfl | ⟨1, _⟩ => rfl | ⟨2, _⟩ => rfl
    refine (shapeCast_apply _ h2 (ix3 (0 : Fin 1) (0 : Fin 1) l) (ix1 l) ?_).trans ?_
    · rw [Shape.rowMajor_val_one, Shape.rowMajor_val_three]; show l.val = (0 * 1 + 0) * 128 + l.val; omega
    refine shapeCast_apply _ h1 (ix1 l) (ix2 (0 : Fin 1) l) ?_
    rw [Shape.rowMajor_val_one, Shape.rowMajor_val_two]; show 0 * 128 + l.val = l.val; omega
  have ha : ∀ h1 : S1x8x128x128.ShapeCasts S8x128x128, shapeCast S8x128x128 acc h1 (ix3 a w l) = acc (ix4 0 a w l) := fun h1 =>
    (shapeCast_dropUnit_apply ![8, 128, 128] acc h1 (ix3 a w l)).trans (congrArg acc (by
      funext x; match x with | ⟨0, _⟩ => rfl | ⟨1, _⟩ => rfl | ⟨2, _⟩ => rfl | ⟨3, _⟩ => rfl))
  unfold k1_pay98
  show (Ideal.ofBits .f32 0x3F000000#32 * (shapeCast S8x128x128 acc _ (ix3 a w l) * broadcastTo S8x128x128 _ _ (ix3 a w l) + broadcastTo S8x128x128 _ _ (ix3 a w l)))
    * (Ideal.ofBits .f32 0x3F800000#32 + Ideal.erf ((shapeCast S8x128x128 acc _ (ix3 a w l) * broadcastTo S8x128x128 _ _ (ix3 a w l) + broadcastTo S8x128x128 _ _ (ix3 a w l)) * Ideal.ofBits .f32 0x3F3504F3#32)) = _
  rw [hb, hb, ha]
  rfl

/-- The transposed half of the lanes from lane `o` on, at an index. -/
theorem half_apply (g : Vec Ideal S8x128x128 .f32) (o : ℕ) (ho : o + 64 ≤ 128) (h1 : S8x128x128.Slices ![0, 0, o] S8x128x64)
    (h2 : S8x128x64.Transposes [0, 2, 1] S8x64x128) (h3 : S8x64x128.ShapeCasts S1x8x64x128) (a : Fin 8) (ch : Fin 64) (w : Fin 128) :
    shapeCast S1x8x64x128 (transpose S8x64x128 [0, 2, 1] (extractStridedSlice S8x128x64 ![0, 0, o] g h1) h2) h3 (ix4 0 a ch w)
      = g (ix3 a w ⟨o + ch.val, by omega⟩) := by
  refine (shapeCast_addUnit_apply ![8, 64, 128] _ h3 (ix4 0 a ch w)).trans ?_
  refine (transpose_apply [0, 2, 1] _ h2 _ (ix3 a w ch) fun b => ?_).trans ?_
  · match b with | ⟨0, _⟩ => rfl | ⟨1, _⟩ => rfl | ⟨2, _⟩ => rfl
  refine extractStridedSlice_apply ![0, 0, o] g h1 (ix3 a w ch) _ fun b => ?_
  match b with
  | ⟨0, _⟩ => show a.val = 0 + a.val; omega
  | ⟨1, _⟩ => show w.val = 0 + w.val; omega
  | ⟨2, _⟩ => rfl

/-- One row of a scale or shift table read through its buffer. -/
theorem read_row {arg : Memref sig .tc .vmem S5x128 .f32} (harg : arg.IsWhole) (x : Vec Ideal S5x128 .f32) (d : ℕ) (hd : d < 5)
    (h : ∀ b, (![d, 0] : Fin 2 → ℕ) b + S1x128.size b ≤ S5x128.size b) (l : Fin 128) :
    View.readAt (Elt Ideal) arg.view (Rect.unit (s := S5x128) ![d, 0] S1x128.size h).toLoadRect (harg.unread x) (ix2 0 l) = x (ix2 ⟨d, hd⟩ l) := by
  rw [View.readAt_apply, harg.read_unread]
  refine congrArg x ?_
  funext b; apply Fin.ext
  match b with
  | ⟨0, _⟩ => show d + 1 * 0 = d; omega
  | ⟨1, _⟩ => show 0 + 1 * l.val = l.val; omega

/-- What the body leaves in the output block of dilation `2 ^ d` at row `a`, channel `ch`, column `w`. -/
def outVal (X K : ℕ → ℕ → ℕ → EReal) (sc sh : Vec Ideal S5x128 .f32) (d : Fin 5) (a ch w : ℕ) (h : ch + 64 * (w / 128) < 128) : EReal :=
  gelu (part X K 8 d.val a (w % 128) (ch + 64 * (w / 128)) * sc (ix2 d ⟨ch + 64 * (w / 128), h⟩) + sh (ix2 d ⟨ch + 64 * (w / 128), h⟩))

/-- A store of eight rows and half the columns leaves its payload there and the rest as it was. -/
theorem canon_out (L : List (View.Piece (Elt Ideal) S1x16x64x256 .f32)) (r o : ℕ)
    (h : ∀ x, (![0, r, 0, o] : Fin 4 → ℕ) x + S1x8x64x128.size x ≤ S1x16x64x256.size x) (pay : Vec Ideal S1x8x64x128 .f32)
    (a : Fin 16) (ch : Fin 64) (w : Fin 256) :
    View.canon (⟨Rect.unit (s := S1x16x64x256) ![0, r, 0, o] S1x8x64x128.size h, pay⟩ :: L) (ix4 0 a ch w)
      = if hp : (r ≤ a.val ∧ a.val < r + 8) ∧ (o ≤ w.val ∧ w.val < o + 128) then
          pay (ix4 0 (⟨a.val - r, by omega⟩ : Fin 8) ch (⟨w.val - o, by omega⟩ : Fin 128))
        else View.canon L (ix4 0 a ch w) := by
  split
  · next hp =>
    have e1 : ix4 (0 : Fin 1) a ch w = (Rect.unit (s := S1x16x64x256) ![0, r, 0, o] S1x8x64x128.size h).emb
        (ix4 (0 : Fin 1) (⟨a.val - r, by omega⟩ : Fin 8) ch (⟨w.val - o, by omega⟩ : Fin 128)) := by
      funext x; apply Fin.ext
      match x with
      | ⟨0, _⟩ => rfl
      | ⟨1, _⟩ => show a.val = r + 1 * (a.val - r); omega
      | ⟨2, _⟩ => show ch.val = 0 + 1 * ch.val; omega
      | ⟨3, _⟩ => show w.val = o + 1 * (w.val - o); omega
    rw [e1]
    exact View.canon_cons_emb _ _ _ _
  · next hp =>
    refine View.canon_cons_of_not_mem _ L ?_
    rw [Rect.mem_set_unit]
    intro hx
    exact hp ⟨hx 1, hx 3⟩

/-- The four stores of one dilation's output block leave `outVal` everywhere. -/
theorem out_step {X K : ℕ → ℕ → ℕ → EReal} {sc sh : Vec Ideal S5x128 .f32} (v14 : View sig .tc .vmem S5x16x128x128 .f32)
    {L : List (View.Piece (Elt Ideal) S5x16x128x128 .f32)} (hA : AccIs L 5 (part X K 8)) (d : ℕ) (hd : d < 5)
    {s t : Vec Ideal S1x128 .f32} (hs : ∀ l, s (ix2 0 l) = sc (ix2 ⟨d, hd⟩ l)) (ht : ∀ l, t (ix2 0 l) = sh (ix2 ⟨d, hd⟩ l))
    {w0 : ∀ x, (![d, 0, 0, 0] : Fin 4 → ℕ) x + S1x8x128x128.size x ≤ S5x16x128x128.size x}
    {w8 : ∀ x, (![d, 8, 0, 0] : Fin 4 → ℕ) x + S1x8x128x128.size x ≤ S5x16x128x128.size x}
    {u0 : ∀ x, (![0, 0, 0, 0] : Fin 4 → ℕ) x + S1x8x64x128.size x ≤ S1x16x64x256.size x}
    {u1 : ∀ x, (![0, 0, 0, 128] : Fin 4 → ℕ) x + S1x8x64x128.size x ≤ S1x16x64x256.size x}
    {u2 : ∀ x, (![0, 8, 0, 0] : Fin 4 → ℕ) x + S1x8x64x128.size x ≤ S1x16x64x256.size x}
    {u3 : ∀ x, (![0, 8, 0, 128] : Fin 4 → ℕ) x + S1x8x64x128.size x ≤ S1x16x64x256.size x}
    (a : Fin 16) (ch : Fin 64) (w : Fin 256) :
    View.canon (Val := Elt Ideal) (s := S1x16x64x256) (e := .f32)
      [⟨Rect.unit (s := S1x16x64x256) ![0, 8, 0, 128] S1x8x64x128.size u3, k1_pay101 (k1_pay100 (v14.readCov L (Rect.unit (s := S5x16x128x128) ![d, 8, 0, 0] S1x8x128x128.size w8).toLoadRect) s t)⟩,
       ⟨Rect.unit (s := S1x16x64x256) ![0, 8, 0, 0] S1x8x64x128.size u2, k1_pay99 (v14.readCov L (Rect.unit (s := S5x16x128x128) ![d, 8, 0, 0] S1x8x128x128.size w8).toLoadRect) s t⟩,
       ⟨Rect.unit (s := S1x16x64x256) ![0, 0, 0, 128] S1x8x64x128.size u1, k1_pay101 (k1_pay100 (v14.readCov L (Rect.unit (s := S5x16x128x128) ![d, 0, 0, 0] S1x8x128x128.size w0).toLoadRect) s t)⟩,
       ⟨Rect.unit (s := S1x16x64x256) ![0, 0, 0, 0] S1x8x64x128.size u0, k1_pay99 (v14.readCov L (Rect.unit (s := S5x16x128x128) ![d, 0, 0, 0] S1x8x128x128.size w0).toLoadRect) s t⟩]
      (ix4 0 a ch w) = outVal X K sc sh ⟨d, hd⟩ a.val ch.val w.val (by omega) := by
  have key : ∀ (r o : ℕ) (ho : o + 64 ≤ 128) (wr : ∀ x, (![d, r, 0, 0] : Fin 4 → ℕ) x + S1x8x128x128.size x ≤ S5x16x128x128.size x)
      (h1 : S8x128x128.Slices ![0, 0, o] S8x128x64) (h2 : S8x128x64.Transposes [0, 2, 1] S8x64x128) (h3 : S8x64x128.ShapeCasts S1x8x64x128)
      (a' : Fin 8) (w' : Fin 128), r + a'.val = a.val → w'.val = w.val % 128 → o = 64 * (w.val / 128) →
      shapeCast S1x8x64x128 (transpose S8x64x128 [0, 2, 1] (extractStridedSlice S8x128x64 ![0, 0, o]
        (k1_pay98 (v14.readCov L (Rect.unit (s := S5x16x128x128) ![d, r, 0, 0] S1x8x128x128.size wr).toLoadRect) s t) h1) h2) h3 (ix4 0 a' ch w')
        = outVal X K sc sh ⟨d, hd⟩ a.val ch.val w.val (by omega) := by
    intro r o ho wr h1 h2 h3 a' w' ea ew eo
    rw [half_apply _ o ho, pay98_apply, hs, ht]
    have er := readAcc (m := 8) v14 hA d r hd wr a' w' (⟨o + ch.val, by omega⟩ : Fin 128)
    have hl : o + ch.val = ch.val + 64 * (w.val / 128) := by omega
    have el : (⟨o + ch.val, by omega⟩ : Fin 128) = ⟨ch.val + 64 * (w.val / 128), by omega⟩ := Fin.ext hl
    unfold outVal
    refine congrArg gelu ?_
    refine congrArg₂ (· + ·) (congrArg₂ (· * ·) (er.trans ?_) (by rw [el])) (by rw [el])
    show part X K 8 d (r + a'.val) w'.val (o + ch.val) = _
    rw [ea, ew, hl]
  have hw := w.isLt
  have ha := a.isLt
  rw [canon_out, canon_out, canon_out, canon_out]
  split
  · next g => exact key 8 64 (by omega) w8 slices_S8x128x128_o0_0_64_S8x128x64 transposes_S8x128x64_p0_2_1_S8x64x128 shapeCasts_S8x64x128_S1x8x64x128 _ _ (by show 8 + (a.val - 8) = _; omega) (by show w.val - 128 = _; omega) (by omega)
  split
  · next g => exact key 8 0 (by omega) w8 slices_S8x128x128_o0_0_0_S8x128x64 transposes_S8x128x64_p0_2_1_S8x64x128 shapeCasts_S8x64x128_S1x8x64x128 _ _ (by show 8 + (a.val - 8) = _; omega) (by show w.val - 0 = _; omega) (by omega)
  split
  · next g => exact key 0 64 (by omega) w0 slices_S8x128x128_o0_0_64_S8x128x64 transposes_S8x128x64_p0_2_1_S8x64x128 shapeCasts_S8x64x128_S1x8x64x128 _ _ (by show 0 + (a.val - 0) = _; omega) (by show w.val - 128 = _; omega) (by omega)
  rw [dif_pos (by omega)]
  exact key 0 0 (by omega) w0 slices_S8x128x128_o0_0_0_S8x128x64 transposes_S8x128x64_p0_2_1_S8x64x128 shapeCasts_S8x64x128_S1x8x64x128 _ _ (by show 0 + (a.val - 0) = _; omega) (by show w.val - 0 = _; omega) (by omega)

section Body

variable (c : Dev nD) (i : grid1.Coords) (arg2 : Memref sig .tc .vmem S1x16x160x128 .bf16) (harg2 : arg2.IsWhole)
  (arg3 : Memref sig .tc .vmem S1x16x160x128 .bf16) (harg3 : arg3.IsWhole)
  (arg4 : Memref sig .tc .vmem S1x16x160x128 .bf16) (harg4 : arg4.IsWhole)
  (arg5 : Memref sig .tc .vmem S9x128x128 .bf16) (harg5 : arg5.IsWhole)
  (arg6 : Memref sig .tc .vmem S5x128 .f32) (harg6 : arg6.IsWhole) (arg7 : Memref sig .tc .vmem S5x128 .f32) (harg7 : arg7.IsWhole)
  (arg8 : Memref sig .tc .vmem S1x16x64x256 .f32) (harg8 : arg8.IsWhole) (arg9 : Memref sig .tc .vmem S1x16x64x256 .f32) (harg9 : arg9.IsWhole)
  (arg10 : Memref sig .tc .vmem S1x16x64x256 .f32) (harg10 : arg10.IsWhole) (arg11 : Memref sig .tc .vmem S1x16x64x256 .f32) (harg11 : arg11.IsWhole)
  (arg12 : Memref sig .tc .vmem S1x16x64x256 .f32) (harg12 : arg12.IsWhole)
  (arg13 : Memref sig .tc .vmem S48x160x128 .f32) (harg13 : arg13.IsWhole) (arg14 : Memref sig .tc .vmem S5x16x128x128 .f32) (harg14 : arg14.IsWhole)
  {x0 x1 x2 : Vec Ideal S1x16x160x128 .bf16} {x3 : Vec Ideal S9x128x128 .bf16} (x4 x5 : Vec Ideal S5x128 .f32)
  {X K : ℕ → ℕ → ℕ → EReal} (H : Blocks x0 x1 x2 x3 X K)
include H

/-- The output block of dilation 1. -/
theorem out_0 (a : Fin 16) (ch : Fin 64) (w : Fin 256) :
    out1_A_6 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix4 0 a ch w)
      = outVal X K x4 x5 0 a.val ch.val w.val (by omega) := by
  unfold out1_A_6
  rw [View.read_writes_junk_eq_canon]
  unfold kernelRun1_A
  dsimp only
  exact out_step arg14.view (acc_8 c arg2 harg2 arg3 harg3 arg4 harg4 arg5 harg5 arg13 arg14 H) 0 (by decide) (read_row harg6 x4 0 (by decide) _) (read_row harg7 x5 0 (by decide) _) a ch w

/-- The output block of dilation 2. -/
theorem out_1 (a : Fin 16) (ch : Fin 64) (w : Fin 256) :
    out1_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix4 0 a ch w)
      = outVal X K x4 x5 1 a.val ch.val w.val (by omega) := by
  unfold out1_A_7
  rw [View.read_writes_junk_eq_canon]
  unfold kernelRun1_A
  dsimp only
  exact out_step arg14.view (acc_8 c arg2 harg2 arg3 harg3 arg4 harg4 arg5 harg5 arg13 arg14 H) 1 (by decide) (read_row harg6 x4 1 (by decide) _) (read_row harg7 x5 1 (by decide) _) a ch w

/-- The output block of dilation 4. -/
theorem out_2 (a : Fin 16) (ch : Fin 64) (w : Fin 256) :
    out1_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix4 0 a ch w)
      = outVal X K x4 x5 2 a.val ch.val w.val (by omega) := by
  unfold out1_A_8
  rw [View.read_writes_junk_eq_canon]
  unfold kernelRun1_A
  dsimp only
  exact out_step arg14.view (acc_8 c arg2 harg2 arg3 harg3 arg4 harg4 arg5 harg5 arg13 arg14 H) 2 (by decide) (read_row harg6 x4 2 (by decide) _) (read_row harg7 x5 2 (by decide) _) a ch w

/-- The output block of dilation 8. -/
theorem out_3 (a : Fin 16) (ch : Fin 64) (w : Fin 256) :
    out1_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix4 0 a ch w)
      = outVal X K x4 x5 3 a.val ch.val w.val (by omega) := by
  unfold out1_A_9
  rw [View.read_writes_junk_eq_canon]
  unfold kernelRun1_A
  dsimp only
  exact out_step arg14.view (acc_8 c arg2 harg2 arg3 harg3 arg4 harg4 arg5 harg5 arg13 arg14 H) 3 (by decide) (read_row harg6 x4 3 (by decide) _) (read_row harg7 x5 3 (by decide) _) a ch w

/-- The output block of dilation 16. -/
theorem out_4 (a : Fin 16) (ch : Fin 64) (w : Fin 256) :
    out1_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix4 0 a ch w)
      = outVal X K x4 x5 4 a.val ch.val w.val (by omega) := by
  unfold out1_A_10
  rw [View.read_writes_junk_eq_canon]
  unfold kernelRun1_A
  dsimp only
  exact out_step arg14.view (acc_8 c arg2 harg2 arg3 harg3 arg4 harg4 arg5 harg5 arg13 arg14 H) 4 (by decide) (read_row harg6 x4 4 (by decide) _) (read_row harg7 x5 4 (by decide) _) a ch w

end Body

end Cert.Value
-- ==== Proof.Conv.lean ====
/- The dilated convolution's launch: its five result arrays as functions of the padded image, the weights and the tables it
   finds, from the body's block at each grid point. -/
module

public import proofs.«01_k».proof.Proof.Epilogue

@[expose] public section

set_option maxRecDepth 16384

noncomputable section

namespace Cert.Value

open Idealize.ShloMosaic Idealize.ShloMosaic.ValueIdx Idealize.ShloMosaic.TcCoe
open Cert.KernelIdeal Cert.KernelIdeal.Gen
open Idealize.ShloMosaic.Pipeline (Dat Cfg Window)

/-! ## The windows' block indices -/

/-- The three windows over the padded image hold the point's block of sixteen rows and the two below it. -/
theorem idx_image : ∀ t : Fin cfg1.N,
    (win1_0.index t 0 = t.val / 16 ∧ win1_0.index t 1 = t.val % 16 ∧ win1_0.index t 2 = 0 ∧ win1_0.index t 3 = 0)
    ∧ (win1_1.index t 0 = t.val / 16 ∧ win1_1.index t 1 = t.val % 16 + 1 ∧ win1_1.index t 2 = 0 ∧ win1_1.index t 3 = 0)
    ∧ (win1_2.index t 0 = t.val / 16 ∧ win1_2.index t 1 = t.val % 16 + 2 ∧ win1_2.index t 2 = 0 ∧ win1_2.index t 3 = 0) :=
  (by decide +kernel : ∀ t : Fin grid1.N, _)

/-- The weights and the two tables are whole at every point. -/
theorem idx_table : ∀ t : Fin cfg1.N,
    (win1_3.index t 0 = 0 ∧ win1_3.index t 1 = 0 ∧ win1_3.index t 2 = 0)
    ∧ (win1_4.index t 0 = 0 ∧ win1_4.index t 1 = 0) ∧ (win1_5.index t 0 = 0 ∧ win1_5.index t 1 = 0) :=
  (by decide +kernel : ∀ t : Fin grid1.N, _)

section Launch

variable (V : (c : Dev nD) → (b : Ref sig .tc) → Buf (Elt Ideal) ((c : Thread nD τ).loc b)) (c : Dev nD)

/-- The padded image a point's three blocks hold: forty-eight rows of image `b` from row `16 i` on. -/
def rows (img : ℕ → ℕ → ℕ → ℕ → EReal) (b i p q l : ℕ) : EReal := img b (16 * i + p) q l

variable {img : ℕ → ℕ → ℕ → ℕ → EReal} {K : ℕ → ℕ → ℕ → EReal}
  (hX : ∀ (b : Fin 8) (p : Fin 288) (q : Fin 160) (l : Fin 128), (V c main_v9 : Vec Ideal S8x288x160x128 .bf16) (ix4 b p q l) = img b.val p.val q.val l.val)
  (hK : ∀ (t : Fin 9) (l o : Fin 128), (V c main_v15 : Vec Ideal S9x128x128 .bf16) (ix3 t l o) = K t.val l.val o.val)

include hX hK in
/-- What the operand blocks hold at a point. -/
theorem blocks (t : Fin cfg1.N) : Blocks (iblk1 V c 0 t) (iblk1 V c 1 t) (iblk1 V c 2 t) (iblk1 V c 3 t)
    (rows img (t.val / 16) (t.val % 16)) K := by
  have ht : t.val < 128 := t.isLt
  obtain ⟨⟨a0, a1, a2, a3⟩, ⟨b0, b1, b2, b3⟩, c0, c1, c2, c3⟩ := idx_image t
  obtain ⟨⟨d0, d1, d2⟩, -, -⟩ := idx_table t
  refine ⟨fun a q l => ?_, fun a q l => ?_, fun a q l => ?_, fun k l o => ?_⟩
  · have e : ((cfg1.win 0).blk t).view.emb (ix4 (0 : Fin 1) a q l) = ix4 (⟨t.val / 16, by omega⟩ : Fin 8) (⟨16 * (t.val % 16) + a.val, by omega⟩ : Fin 288) q l := by
      funext x; apply Fin.ext
      match x with
      | ⟨0, _⟩ => show win1_0.index t 0 * 1 + 1 * 0 = t.val / 16; omega
      | ⟨1, _⟩ => show win1_0.index t 1 * 16 + 1 * a.val = 16 * (t.val % 16) + a.val; omega
      | ⟨2, _⟩ => show win1_0.index t 2 * 160 + 1 * q.val = q.val; omega
      | ⟨3, _⟩ => show win1_0.index t 3 * 128 + 1 * l.val = l.val; omega
    exact (congrArg (V c main_v9) e).trans (hX _ _ _ _)
  · have e : ((cfg1.win 1).blk t).view.emb (ix4 (0 : Fin 1) a q l) = ix4 (⟨t.val / 16, by omega⟩ : Fin 8) (⟨16 * (t.val % 16) + (16 + a.val), by omega⟩ : Fin 288) q l := by
      funext x; apply Fin.ext
      match x with
      | ⟨0, _⟩ => show win1_1.index t 0 * 1 + 1 * 0 = t.val / 16; omega
      | ⟨1, _⟩ => show win1_1.index t 1 * 16 + 1 * a.val = 16 * (t.val % 16) + (16 + a.val); omega
      | ⟨2, _⟩ => show win1_1.index t 2 * 160 + 1 * q.val = q.val; omega
      | ⟨3, _⟩ => show win1_1.index t 3 * 128 + 1 * l.val = l.val; omega
    exact (congrArg (V c main_v9) e).trans (hX _ _ _ _)
  · have e : ((cfg1.win 2).blk t).view.emb (ix4 (0 : Fin 1) a q l) = ix4 (⟨t.val / 16, by omega⟩ : Fin 8) (⟨16 * (t.val % 16) + (32 + a.val), by omega⟩ : Fin 288) q l := by
      funext x; apply Fin.ext
      match x with
      | ⟨0, _⟩ => show win1_2.index t 0 * 1 + 1 * 0 = t.val / 16; omega
      | ⟨1, _⟩ => show win1_2.index t 1 * 16 + 1 * a.val = 16 * (t.val % 16) + (32 + a.val); omega
      | ⟨2, _⟩ => show win1_2.index t 2 * 160 + 1 * q.val = q.val; omega
      | ⟨3, _⟩ => show win1_2.index t 3 * 128 + 1 * l.val = l.val; omega
    exact (congrArg (V c main_v9) e).trans (hX _ _ _ _)
  · have e : ((cfg1.win 3).blk t).view.emb (ix3 k l o) = ix3 k l o := by
      funext x; apply Fin.ext
      match x with
      | ⟨0, _⟩ => show win1_3.index t 0 * 9 + 1 * k.val = k.val; omega
      | ⟨1, _⟩ => show win1_3.index t 1 * 128 + 1 * l.val = l.val; omega
      | ⟨2, _⟩ => show win1_3.index t 2 * 128 + 1 * o.val = o.val; omega
    exact (congrArg (V c main_v15) e).trans (hK _ _ _)

/-- The scale table's block is the table. -/
theorem iblk_scale (t : Fin cfg1.N) : iblk1 V c 4 t = V c main_v6 := by
  obtain ⟨-, ⟨e0, e1⟩, -⟩ := idx_table t
  funext j
  have e : ((cfg1.win 4).blk t).view.emb j = j := by
    funext x; apply Fin.ext
    match x with
    | ⟨0, _⟩ => show win1_4.index t 0 * 5 + 1 * (j 0).val = (j 0).val; omega
    | ⟨1, _⟩ => show win1_4.index t 1 * 128 + 1 * (j 1).val = (j 1).val; omega
  exact congrArg (V c main_v6) e

/-- The shift table's block is the table. -/
theorem iblk_shift (t : Fin cfg1.N) : iblk1 V c 5 t = V c main_v7 := by
  obtain ⟨-, -, e0, e1⟩ := idx_table t
  funext j
  have e : ((cfg1.win 5).blk t).view.emb j = j := by
    funext x; apply Fin.ext
    match x with
    | ⟨0, _⟩ => show win1_5.index t 0 * 5 + 1 * (j 0).val = (j 0).val; omega
    | ⟨1, _⟩ => show win1_5.index t 1 * 128 + 1 * (j 1).val = (j 1).val; omega
  exact congrArg (V c main_v7) e

/-- The result array of dilation `2 ^ d`, channels before columns. -/
def convArr (img : ℕ → ℕ → ℕ → ℕ → EReal) (K : ℕ → ℕ → ℕ → EReal) (sc sh : Vec Ideal S5x128 .f32) (d : Fin 5) : Vec Ideal S8x256x64x256 .f32 :=
  fun j => outVal (rows img (j 0).val ((j 1).val / 16)) K sc sh d ((j 1).val % 16) (j 2).val (j 3).val
    (by have h2 : (j 2).val < 64 := (j 2).isLt; have h3 : (j 3).val < 256 := (j 3).isLt; omega)

/-- The result array at coordinates. -/
theorem convArr_apply (img : ℕ → ℕ → ℕ → ℕ → EReal) (K : ℕ → ℕ → ℕ → EReal) (sc sh : Vec Ideal S5x128 .f32) (d : Fin 5) (b : Fin 8) (h : Fin 256) (ch : Fin 64) (w : Fin 256) :
    convArr img K sc sh d (ix4 b h ch w) = outVal (rows img b.val (h.val / 16)) K sc sh d (h.val % 16) ch.val w.val (by omega) := rfl

/-! ## Dilation 1 -/

/-- The result's block index is the point's. -/
theorem idx_out0 : ∀ t : Fin cfg1.N, win1_6.index t 0 = t.val / 16 ∧ win1_6.index t 1 = t.val % 16 ∧ win1_6.index t 2 = 0 ∧ win1_6.index t 3 = 0 :=
  (by decide +kernel : ∀ t : Fin grid1.N, _)

include hX hK in
/-- What a point writes back is its block of the result array. -/
theorem flushed_0 (t : Fin cfg1.N) : (dat1 V c).flushed 6 t
    = ((cfg1.win 6).blk t).view.read (Elt Ideal) (convArr img K (V c main_v6) (V c main_v7) 0) := by
  have ht : t.val < 128 := t.isLt
  obtain ⟨e0, e1, e2, e3⟩ := idx_out0 t
  show (cfg1.win 6).cut (cfg1.grid.coords t) ((dat1 V c).after 6 t) = _
  rw [after1_6]
  funext j
  obtain ⟨z, a, ch, w, rfl⟩ : ∃ (z : Fin 1) (a : Fin 16) (ch : Fin 64) (w : Fin 256), j = ix4 z a ch w := ⟨_, _, _, _, eq_ix4 j⟩
  obtain rfl : z = 0 := Subsingleton.elim _ _
  have e : ((cfg1.win 6).blk t).view.emb (ix4 (0 : Fin 1) a ch w) = ix4 (⟨t.val / 16, by omega⟩ : Fin 8) (⟨16 * (t.val % 16) + a.val, by omega⟩ : Fin 256) ch w := by
    funext x; apply Fin.ext
    match x with
    | ⟨0, _⟩ => show win1_6.index t 0 * 1 + 1 * 0 = t.val / 16; omega
    | ⟨1, _⟩ => show win1_6.index t 1 * 16 + 1 * a.val = 16 * (t.val % 16) + a.val; omega
    | ⟨2, _⟩ => show win1_6.index t 2 * 64 + 1 * ch.val = ch.val; omega
    | ⟨3, _⟩ => show win1_6.index t 3 * 256 + 1 * w.val = w.val; omega
  show (outsAt1 V c t).1 (ix4 0 a ch w) = convArr img K (V c main_v6) (V c main_v7) 0 (((cfg1.win 6).blk t).view.emb (ix4 (0 : Fin 1) a ch w))
  rw [e, convArr_apply]
  unfold outsAt1
  dsimp only
  rw [out_0 (H := blocks V c hX hK t), iblk_scale, iblk_shift]
  have h1 : (16 * (t.val % 16) + a.val) / 16 = t.val % 16 := by omega
  have h2 : (16 * (t.val % 16) + a.val) % 16 = a.val := by omega
  simp only [h1, h2]

/-- Every element of the result array is in some point's block. -/
theorem covered_0 (i : S8x256x64x256.Idx) : ∃ t : Fin cfg1.N, (cfg1.win 6).flush t = true ∧ i ∈ ((cfg1.win 6).blk t).view.set := by
  have h0 : (i 0).val < 8 := (i 0).isLt
  have h1 : (i 1).val < 256 := (i 1).isLt
  have h2 : (i 2).val < 64 := (i 2).isLt
  have h3 : (i 3).val < 256 := (i 3).isLt
  let t : Fin cfg1.N := ⟨16 * (i 0).val + (i 1).val / 16, (show _ < 128 by omega)⟩
  obtain ⟨e0, e1, e2, e3⟩ := idx_out0 t
  have t0 : t.val / 16 = (i 0).val := by show (16 * (i 0).val + (i 1).val / 16) / 16 = _; omega
  have t1 : t.val % 16 = (i 1).val / 16 := by show (16 * (i 0).val + (i 1).val / 16) % 16 = _; omega
  have e : ((cfg1.win 6).blk t).view.emb (ix4 (0 : Fin 1) (⟨(i 1).val % 16, by omega⟩ : Fin 16) (⟨(i 2).val, h2⟩ : Fin 64) (⟨(i 3).val, h3⟩ : Fin 256)) = i := by
    funext x; apply Fin.ext
    match x with
    | ⟨0, _⟩ => show win1_6.index t 0 * 1 + 1 * 0 = (i 0).val; omega
    | ⟨1, _⟩ => show win1_6.index t 1 * 16 + 1 * ((i 1).val % 16) = (i 1).val; omega
    | ⟨2, _⟩ => show win1_6.index t 2 * 64 + 1 * (i 2).val = (i 2).val; omega
    | ⟨3, _⟩ => show win1_6.index t 3 * 256 + 1 * (i 3).val = (i 3).val; omega
  refine ⟨t, flush1_6 t, ?_⟩
  have hm := ((cfg1.win 6).blk t).view.emb_mem_set (ix4 (0 : Fin 1) (⟨(i 1).val % 16, by omega⟩ : Fin 16) (⟨(i 2).val, h2⟩ : Fin 64) (⟨(i 3).val, h3⟩ : Fin 256))
  rwa [e] at hm

include hX hK in
/-- The result array after the launch. -/
theorem final_0 : (dat1 V c).arrAt 6 cfg1.N = convArr img K (V c main_v6) (V c main_v7) 0 :=
  (dat1 V c).arrAt_eq_of_cover 6 _ (fun t _ => flushed_0 V c hX hK t) covered_0

/-! ## Dilation 2 -/

/-- The result's block index is the point's. -/
theorem idx_out1 : ∀ t : Fin cfg1.N, win1_7.index t 0 = t.val / 16 ∧ win1_7.index t 1 = t.val % 16 ∧ win1_7.index t 2 = 0 ∧ win1_7.index t 3 = 0 :=
  (by decide +kernel : ∀ t : Fin grid1.N, _)

include hX hK in
/-- What a point writes back is its block of the result array. -/
theorem flushed_1 (t : Fin cfg1.N) : (dat1 V c).flushed 7 t
    = ((cfg1.win 7).blk t).view.read (Elt Ideal) (convArr img K (V c main_v6) (V c main_v7) 1) := by
  have ht : t.val < 128 := t.isLt
  obtain ⟨e0, e1, e2, e3⟩ := idx_out1 t
  show (cfg1.win 7).cut (cfg1.grid.coords t) ((dat1 V c).after 7 t) = _
  rw [after1_7]
  funext j
  obtain ⟨z, a, ch, w, rfl⟩ : ∃ (z : Fin 1) (a : Fin 16) (ch : Fin 64) (w : Fin 256), j = ix4 z a ch w := ⟨_, _, _, _, eq_ix4 j⟩
  obtain rfl : z = 0 := Subsingleton.elim _ _
  have e : ((cfg1.win 7).blk t).view.emb (ix4 (0 : Fin 1) a ch w) = ix4 (⟨t.val / 16, by omega⟩ : Fin 8) (⟨16 * (t.val % 16) + a.val, by omega⟩ : Fin 256) ch w := by
    funext x; apply Fin.ext
    match x with
    | ⟨0, _⟩ => show win1_7.index t 0 * 1 + 1 * 0 = t.val / 16; omega
    | ⟨1, _⟩ => show win1_7.index t 1 * 16 + 1 * a.val = 16 * (t.val % 16) + a.val; omega
    | ⟨2, _⟩ => show win1_7.index t 2 * 64 + 1 * ch.val = ch.val; omega
    | ⟨3, _⟩ => show win1_7.index t 3 * 256 + 1 * w.val = w.val; omega
  show (outsAt1 V c t).2.1 (ix4 0 a ch w) = convArr img K (V c main_v6) (V c main_v7) 1 (((cfg1.win 7).blk t).view.emb (ix4 (0 : Fin 1) a ch w))
  rw [e, convArr_apply]
  unfold outsAt1
  dsimp only
  rw [out_1 (H := blocks V c hX hK t), iblk_scale, iblk_shift]
  have h1 : (16 * (t.val % 16) + a.val) / 16 = t.val % 16 := by omega
  have h2 : (16 * (t.val % 16) + a.val) % 16 = a.val := by omega
  simp only [h1, h2]

/-- Every element of the result array is in some point's block. -/
theorem covered_1 (i : S8x256x64x256.Idx) : ∃ t : Fin cfg1.N, (cfg1.win 7).flush t = true ∧ i ∈ ((cfg1.win 7).blk t).view.set := by
  have h0 : (i 0).val < 8 := (i 0).isLt
  have h1 : (i 1).val < 256 := (i 1).isLt
  have h2 : (i 2).val < 64 := (i 2).isLt
  have h3 : (i 3).val < 256 := (i 3).isLt
  let t : Fin cfg1.N := ⟨16 * (i 0).val + (i 1).val / 16, (show _ < 128 by omega)⟩
  obtain ⟨e0, e1, e2, e3⟩ := idx_out1 t
  have t0 : t.val / 16 = (i 0).val := by show (16 * (i 0).val + (i 1).val / 16) / 16 = _; omega
  have t1 : t.val % 16 = (i 1).val / 16 := by show (16 * (i 0).val + (i 1).val / 16) % 16 = _; omega
  have e : ((cfg1.win 7).blk t).view.emb (ix4 (0 : Fin 1) (⟨(i 1).val % 16, by omega⟩ : Fin 16) (⟨(i 2).val, h2⟩ : Fin 64) (⟨(i 3).val, h3⟩ : Fin 256)) = i := by
    funext x; apply Fin.ext
    match x with
    | ⟨0, _⟩ => show win1_7.index t 0 * 1 + 1 * 0 = (i 0).val; omega
    | ⟨1, _⟩ => show win1_7.index t 1 * 16 + 1 * ((i 1).val % 16) = (i 1).val; omega
    | ⟨2, _⟩ => show win1_7.index t 2 * 64 + 1 * (i 2).val = (i 2).val; omega
    | ⟨3, _⟩ => show win1_7.index t 3 * 256 + 1 * (i 3).val = (i 3).val; omega
  refine ⟨t, flush1_7 t, ?_⟩
  have hm := ((cfg1.win 7).blk t).view.emb_mem_set (ix4 (0 : Fin 1) (⟨(i 1).val % 16, by omega⟩ : Fin 16) (⟨(i 2).val, h2⟩ : Fin 64) (⟨(i 3).val, h3⟩ : Fin 256))
  rwa [e] at hm

include hX hK in
/-- The result array after the launch. -/
theorem final_1 : (dat1 V c).arrAt 7 cfg1.N = convArr img K (V c main_v6) (V c main_v7) 1 :=
  (dat1 V c).arrAt_eq_of_cover 7 _ (fun t _ => flushed_1 V c hX hK t) covered_1

/-! ## Dilation 4 -/

/-- The result's block index is the point's. -/
theorem idx_out2 : ∀ t : Fin cfg1.N, win1_8.index t 0 = t.val / 16 ∧ win1_8.index t 1 = t.val % 16 ∧ win1_8.index t 2 = 0 ∧ win1_8.index t 3 = 0 :=
  (by decide +kernel : ∀ t : Fin grid1.N, _)

include hX hK in
/-- What a point writes back is its block of the result array. -/
theorem flushed_2 (t : Fin cfg1.N) : (dat1 V c).flushed 8 t
    = ((cfg1.win 8).blk t).view.read (Elt Ideal) (convArr img K (V c main_v6) (V c main_v7) 2) := by
  have ht : t.val < 128 := t.isLt
  obtain ⟨e0, e1, e2, e3⟩ := idx_out2 t
  show (cfg1.win 8).cut (cfg1.grid.coords t) ((dat1 V c).after 8 t) = _
  rw [after1_8]
  funext j
  obtain ⟨z, a, ch, w, rfl⟩ : ∃ (z : Fin 1) (a : Fin 16) (ch : Fin 64) (w : Fin 256), j = ix4 z a ch w := ⟨_, _, _, _, eq_ix4 j⟩
  obtain rfl : z = 0 := Subsingleton.elim _ _
  have e : ((cfg1.win 8).blk t).view.emb (ix4 (0 : Fin 1) a ch w) = ix4 (⟨t.val / 16, by omega⟩ : Fin 8) (⟨16 * (t.val % 16) + a.val, by omega⟩ : Fin 256) ch w := by
    funext x; apply Fin.ext
    match x with
    | ⟨0, _⟩ => show win1_8.index t 0 * 1 + 1 * 0 = t.val / 16; omega
    | ⟨1, _⟩ => show win1_8.index t 1 * 16 + 1 * a.val = 16 * (t.val % 16) + a.val; omega
    | ⟨2, _⟩ => show win1_8.index t 2 * 64 + 1 * ch.val = ch.val; omega
    | ⟨3, _⟩ => show win1_8.index t 3 * 256 + 1 * w.val = w.val; omega
  show (outsAt1 V c t).2.2.1 (ix4 0 a ch w) = convArr img K (V c main_v6) (V c main_v7) 2 (((cfg1.win 8).blk t).view.emb (ix4 (0 : Fin 1) a ch w))
  rw [e, convArr_apply]
  unfold outsAt1
  dsimp only
  rw [out_2 (H := blocks V c hX hK t), iblk_scale, iblk_shift]
  have h1 : (16 * (t.val % 16) + a.val) / 16 = t.val % 16 := by omega
  have h2 : (16 * (t.val % 16) + a.val) % 16 = a.val := by omega
  simp only [h1, h2]

/-- Every element of the result array is in some point's block. -/
theorem covered_2 (i : S8x256x64x256.Idx) : ∃ t : Fin cfg1.N, (cfg1.win 8).flush t = true ∧ i ∈ ((cfg1.win 8).blk t).view.set := by
  have h0 : (i 0).val < 8 := (i 0).isLt
  have h1 : (i 1).val < 256 := (i 1).isLt
  have h2 : (i 2).val < 64 := (i 2).isLt
  have h3 : (i 3).val < 256 := (i 3).isLt
  let t : Fin cfg1.N := ⟨16 * (i 0).val + (i 1).val / 16, (show _ < 128 by omega)⟩
  obtain ⟨e0, e1, e2, e3⟩ := idx_out2 t
  have t0 : t.val / 16 = (i 0).val := by show (16 * (i 0).val + (i 1).val / 16) / 16 = _; omega
  have t1 : t.val % 16 = (i 1).val / 16 := by show (16 * (i 0).val + (i 1).val / 16) % 16 = _; omega
  have e : ((cfg1.win 8).blk t).view.emb (ix4 (0 : Fin 1) (⟨(i 1).val % 16, by omega⟩ : Fin 16) (⟨(i 2).val, h2⟩ : Fin 64) (⟨(i 3).val, h3⟩ : Fin 256)) = i := by
    funext x; apply Fin.ext
    match x with
    | ⟨0, _⟩ => show win1_8.index t 0 * 1 + 1 * 0 = (i 0).val; omega
    | ⟨1, _⟩ => show win1_8.index t 1 * 16 + 1 * ((i 1).val % 16) = (i 1).val; omega
    | ⟨2, _⟩ => show win1_8.index t 2 * 64 + 1 * (i 2).val = (i 2).val; omega
    | ⟨3, _⟩ => show win1_8.index t 3 * 256 + 1 * (i 3).val = (i 3).val; omega
  refine ⟨t, flush1_8 t, ?_⟩
  have hm := ((cfg1.win 8).blk t).view.emb_mem_set (ix4 (0 : Fin 1) (⟨(i 1).val % 16, by omega⟩ : Fin 16) (⟨(i 2).val, h2⟩ : Fin 64) (⟨(i 3).val, h3⟩ : Fin 256))
  rwa [e] at hm

include hX hK in
/-- The result array after the launch. -/
theorem final_2 : (dat1 V c).arrAt 8 cfg1.N = convArr img K (V c main_v6) (V c main_v7) 2 :=
  (dat1 V c).arrAt_eq_of_cover 8 _ (fun t _ => flushed_2 V c hX hK t) covered_2

/-! ## Dilation 8 -/

/-- The result's block index is the point's. -/
theorem idx_out3 : ∀ t : Fin cfg1.N, win1_9.index t 0 = t.val / 16 ∧ win1_9.index t 1 = t.val % 16 ∧ win1_9.index t 2 = 0 ∧ win1_9.index t 3 = 0 :=
  (by decide +kernel : ∀ t : Fin grid1.N, _)

include hX hK in
/-- What a point writes back is its block of the result array. -/
theorem flushed_3 (t : Fin cfg1.N) : (dat1 V c).flushed 9 t
    = ((cfg1.win 9).blk t).view.read (Elt Ideal) (convArr img K (V c main_v6) (V c main_v7) 3) := by
  have ht : t.val < 128 := t.isLt
  obtain ⟨e0, e1, e2, e3⟩ := idx_out3 t
  show (cfg1.win 9).cut (cfg1.grid.coords t) ((dat1 V c).after 9 t) = _
  rw [after1_9]
  funext j
  obtain ⟨z, a, ch, w, rfl⟩ : ∃ (z : Fin 1) (a : Fin 16) (ch : Fin 64) (w : Fin 256), j = ix4 z a ch w := ⟨_, _, _, _, eq_ix4 j⟩
  obtain rfl : z = 0 := Subsingleton.elim _ _
  have e : ((cfg1.win 9).blk t).view.emb (ix4 (0 : Fin 1) a ch w) = ix4 (⟨t.val / 16, by omega⟩ : Fin 8) (⟨16 * (t.val % 16) + a.val, by omega⟩ : Fin 256) ch w := by
    funext x; apply Fin.ext
    match x with
    | ⟨0, _⟩ => show win1_9.index t 0 * 1 + 1 * 0 = t.val / 16; omega
    | ⟨1, _⟩ => show win1_9.index t 1 * 16 + 1 * a.val = 16 * (t.val % 16) + a.val; omega
    | ⟨2, _⟩ => show win1_9.index t 2 * 64 + 1 * ch.val = ch.val; omega
    | ⟨3, _⟩ => show win1_9.index t 3 * 256 + 1 * w.val = w.val; omega
  show (outsAt1 V c t).2.2.2.1 (ix4 0 a ch w) = convArr img K (V c main_v6) (V c main_v7) 3 (((cfg1.win 9).blk t).view.emb (ix4 (0 : Fin 1) a ch w))
  rw [e, convArr_apply]
  unfold outsAt1
  dsimp only
  rw [out_3 (H := blocks V c hX hK t), iblk_scale, iblk_shift]
  have h1 : (16 * (t.val % 16) + a.val) / 16 = t.val % 16 := by omega
  have h2 : (16 * (t.val % 16) + a.val) % 16 = a.val := by omega
  simp only [h1, h2]

/-- Every element of the result array is in some point's block. -/
theorem covered_3 (i : S8x256x64x256.Idx) : ∃ t : Fin cfg1.N, (cfg1.win 9).flush t = true ∧ i ∈ ((cfg1.win 9).blk t).view.set := by
  have h0 : (i 0).val < 8 := (i 0).isLt
  have h1 : (i 1).val < 256 := (i 1).isLt
  have h2 : (i 2).val < 64 := (i 2).isLt
  have h3 : (i 3).val < 256 := (i 3).isLt
  let t : Fin cfg1.N := ⟨16 * (i 0).val + (i 1).val / 16, (show _ < 128 by omega)⟩
  obtain ⟨e0, e1, e2, e3⟩ := idx_out3 t
  have t0 : t.val / 16 = (i 0).val := by show (16 * (i 0).val + (i 1).val / 16) / 16 = _; omega
  have t1 : t.val % 16 = (i 1).val / 16 := by show (16 * (i 0).val + (i 1).val / 16) % 16 = _; omega
  have e : ((cfg1.win 9).blk t).view.emb (ix4 (0 : Fin 1) (⟨(i 1).val % 16, by omega⟩ : Fin 16) (⟨(i 2).val, h2⟩ : Fin 64) (⟨(i 3).val, h3⟩ : Fin 256)) = i := by
    funext x; apply Fin.ext
    match x with
    | ⟨0, _⟩ => show win1_9.index t 0 * 1 + 1 * 0 = (i 0).val; omega
    | ⟨1, _⟩ => show win1_9.index t 1 * 16 + 1 * ((i 1).val % 16) = (i 1).val; omega
    | ⟨2, _⟩ => show win1_9.index t 2 * 64 + 1 * (i 2).val = (i 2).val; omega
    | ⟨3, _⟩ => show win1_9.index t 3 * 256 + 1 * (i 3).val = (i 3).val; omega
  refine ⟨t, flush1_9 t, ?_⟩
  have hm := ((cfg1.win 9).blk t).view.emb_mem_set (ix4 (0 : Fin 1) (⟨(i 1).val % 16, by omega⟩ : Fin 16) (⟨(i 2).val, h2⟩ : Fin 64) (⟨(i 3).val, h3⟩ : Fin 256))
  rwa [e] at hm

include hX hK in
/-- The result array after the launch. -/
theorem final_3 : (dat1 V c).arrAt 9 cfg1.N = convArr img K (V c main_v6) (V c main_v7) 3 :=
  (dat1 V c).arrAt_eq_of_cover 9 _ (fun t _ => flushed_3 V c hX hK t) covered_3

/-! ## Dilation 16 -/

/-- The result's block index is the point's. -/
theorem idx_out4 : ∀ t : Fin cfg1.N, win1_10.index t 0 = t.val / 16 ∧ win1_10.index t 1 = t.val % 16 ∧ win1_10.index t 2 = 0 ∧ win1_10.index t 3 = 0 :=
  (by decide +kernel : ∀ t : Fin grid1.N, _)

include hX hK in
/-- What a point writes back is its block of the result array. -/
theorem flushed_4 (t : Fin cfg1.N) : (dat1 V c).flushed 10 t
    = ((cfg1.win 10).blk t).view.read (Elt Ideal) (convArr img K (V c main_v6) (V c main_v7) 4) := by
  have ht : t.val < 128 := t.isLt
  obtain ⟨e0, e1, e2, e3⟩ := idx_out4 t
  show (cfg1.win 10).cut (cfg1.grid.coords t) ((dat1 V c).after 10 t) = _
  rw [after1_10]
  funext j
  obtain ⟨z, a, ch, w, rfl⟩ : ∃ (z : Fin 1) (a : Fin 16) (ch : Fin 64) (w : Fin 256), j = ix4 z a ch w := ⟨_, _, _, _, eq_ix4 j⟩
  obtain rfl : z = 0 := Subsingleton.elim _ _
  have e : ((cfg1.win 10).blk t).view.emb (ix4 (0 : Fin 1) a ch w) = ix4 (⟨t.val / 16, by omega⟩ : Fin 8) (⟨16 * (t.val % 16) + a.val, by omega⟩ : Fin 256) ch w := by
    funext x; apply Fin.ext
    match x with
    | ⟨0, _⟩ => show win1_10.index t 0 * 1 + 1 * 0 = t.val / 16; omega
    | ⟨1, _⟩ => show win1_10.index t 1 * 16 + 1 * a.val = 16 * (t.val % 16) + a.val; omega
    | ⟨2, _⟩ => show win1_10.index t 2 * 64 + 1 * ch.val = ch.val; omega
    | ⟨3, _⟩ => show win1_10.index t 3 * 256 + 1 * w.val = w.val; omega
  show (outsAt1 V c t).2.2.2.2 (ix4 0 a ch w) = convArr img K (V c main_v6) (V c main_v7) 4 (((cfg1.win 10).blk t).view.emb (ix4 (0 : Fin 1) a ch w))
  rw [e, convArr_apply]
  unfold outsAt1
  dsimp only
  rw [out_4 (H := blocks V c hX hK t), iblk_scale, iblk_shift]
  have h1 : (16 * (t.val % 16) + a.val) / 16 = t.val % 16 := by omega
  have h2 : (16 * (t.val % 16) + a.val) % 16 = a.val := by omega
  simp only [h1, h2]

/-- Every element of the result array is in some point's block. -/
theorem covered_4 (i : S8x256x64x256.Idx) : ∃ t : Fin cfg1.N, (cfg1.win 10).flush t = true ∧ i ∈ ((cfg1.win 10).blk t).view.set := by
  have h0 : (i 0).val < 8 := (i 0).isLt
  have h1 : (i 1).val < 256 := (i 1).isLt
  have h2 : (i 2).val < 64 := (i 2).isLt
  have h3 : (i 3).val < 256 := (i 3).isLt
  let t : Fin cfg1.N := ⟨16 * (i 0).val + (i 1).val / 16, (show _ < 128 by omega)⟩
  obtain ⟨e0, e1, e2, e3⟩ := idx_out4 t
  have t0 : t.val / 16 = (i 0).val := by show (16 * (i 0).val + (i 1).val / 16) / 16 = _; omega
  have t1 : t.val % 16 = (i 1).val / 16 := by show (16 * (i 0).val + (i 1).val / 16) % 16 = _; omega
  have e : ((cfg1.win 10).blk t).view.emb (ix4 (0 : Fin 1) (⟨(i 1).val % 16, by omega⟩ : Fin 16) (⟨(i 2).val, h2⟩ : Fin 64) (⟨(i 3).val, h3⟩ : Fin 256)) = i := by
    funext x; apply Fin.ext
    match x with
    | ⟨0, _⟩ => show win1_10.index t 0 * 1 + 1 * 0 = (i 0).val; omega
    | ⟨1, _⟩ => show win1_10.index t 1 * 16 + 1 * ((i 1).val % 16) = (i 1).val; omega
    | ⟨2, _⟩ => show win1_10.index t 2 * 64 + 1 * (i 2).val = (i 2).val; omega
    | ⟨3, _⟩ => show win1_10.index t 3 * 256 + 1 * (i 3).val = (i 3).val; omega
  refine ⟨t, flush1_10 t, ?_⟩
  have hm := ((cfg1.win 10).blk t).view.emb_mem_set (ix4 (0 : Fin 1) (⟨(i 1).val % 16, by omega⟩ : Fin 16) (⟨(i 2).val, h2⟩ : Fin 64) (⟨(i 3).val, h3⟩ : Fin 256))
  rwa [e] at hm

include hX hK in
/-- The result array after the launch. -/
theorem final_4 : (dat1 V c).arrAt 10 cfg1.N = convArr img K (V c main_v6) (V c main_v7) 4 :=
  (dat1 V c).arrAt_eq_of_cover 10 _ (fun t _ => flushed_4 V c hX hK t) covered_4

end Launch

end Cert.Value
-- ==== Proof.Repack.lean ====
/- The repacking launch: the array it leaves is the padded image, two column ranges side by side in the lanes. -/
module

public import proofs.«01_k».proof.Proof.Gen.KernelIdeal.Frame
public import Idealize.ShloMosaic.Lib.Pipeline.Value
public import Idealize.ShloMosaic.Lib.ValueIdx

@[expose] public section

set_option maxRecDepth 16384

noncomputable section

namespace Cert.Value

open Idealize.ShloMosaic Idealize.ShloMosaic.ValueIdx Idealize.ShloMosaic.TcCoe
open Cert.KernelIdeal Cert.KernelIdeal.Gen
open Idealize.ShloMosaic.Pipeline (Dat Cfg Window)

/-- The image `x` with sixteen zeros on each side of its rows and columns: row `R` and column `C` count from the padding's
    first. -/
def img (x : ℕ → ℕ → ℕ → ℕ → EReal) (b R C ch : ℕ) : EReal :=
  if (16 ≤ R ∧ R < 272) ∧ (16 ≤ C ∧ C < 272) then x b (R - 16) (C - 16) ch else 0

/-- The padded image packed: lanes below 64 hold the columns from 0 on, the others the columns from 128 on. -/
def packed (x : ℕ → ℕ → ℕ → ℕ → EReal) (b p q l : ℕ) : EReal := img x b p (q + 128 * (l / 64)) (l % 64)

/-- The all-zero word of the narrow float format is zero. -/
theorem ofBits_zero_bf16 : Ideal.ofBits .bf16 0x0000#16 = 0 := by simp [Ideal.ofBits, Ideal.ieee]

/-- A store of one block of the packed array, at an index. -/
theorem canon_pack (L : List (View.Piece (Elt Ideal) S1x16x160x128 .bf16)) (r o m n : ℕ)
    (h : ∀ x, (![0, 0, r, o] : Fin 4 → ℕ) x + (![1, 16, m, n] : Fin 4 → ℕ) x ≤ S1x16x160x128.size x)
    (pay : (⟨4, ![1, 16, m, n]⟩ : Shape).Idx → EReal) (a : Fin 16) (q : Fin 160) (l : Fin 128) :
    View.canon (⟨Rect.unit (s := S1x16x160x128) ![0, 0, r, o] ![1, 16, m, n] h, pay⟩ :: L) (ix4 (0 : Fin 1) a q l)
      = if hp : (r ≤ q.val ∧ q.val < r + m) ∧ (o ≤ l.val ∧ l.val < o + n) then
          pay (ix4 (0 : Fin 1) a (⟨q.val - r, by omega⟩ : Fin m) (⟨l.val - o, by omega⟩ : Fin n))
        else View.canon L (ix4 (0 : Fin 1) a q l) := by
  split
  · next hp =>
    have e1 : ix4 (0 : Fin 1) a q l = (Rect.unit (s := S1x16x160x128) ![0, 0, r, o] ![1, 16, m, n] h).emb
        (ix4 (0 : Fin 1) a (⟨q.val - r, by omega⟩ : Fin m) (⟨l.val - o, by omega⟩ : Fin n)) := by
      funext x; apply Fin.ext
      match x with
      | ⟨0, _⟩ => rfl
      | ⟨1, _⟩ => show a.val = 0 + 1 * a.val; omega
      | ⟨2, _⟩ => show q.val = r + 1 * (q.val - r); omega
      | ⟨3, _⟩ => show l.val = o + 1 * (l.val - o); omega
    rw [e1]
    exact View.canon_cons_emb _ _ _ _
  · next hp =>
    refine View.canon_cons_of_not_mem _ L ?_
    rw [Rect.mem_set_unit]
    intro hx
    exact hp ⟨hx 2, hx 3⟩

/-- The block with columns and channels swapped, at an index. -/
theorem swapped_apply (v : Vec Ideal S1x16x64x256 .f32) (a : Fin 16) (w : Fin 256) (ch : Fin 64) :
    k0_pay1 v (ix3 a w ch) = v (ix4 0 a ch w) := by
  show transpose S16x256x64 [0, 2, 1] (shapeCast S16x64x256 v shapeCasts_S1x16x64x256_S16x64x256) transposes_S16x64x256_p0_2_1_S16x256x64 (ix3 a w ch) = _
  refine (transpose_apply [0, 2, 1] _ transposes_S16x64x256_p0_2_1_S16x256x64 (ix3 a w ch) (ix3 a ch w) fun b => ?_).trans ?_
  · match b with | ⟨0, _⟩ => rfl | ⟨1, _⟩ => rfl | ⟨2, _⟩ => rfl
  refine (shapeCast_dropUnit_apply ![16, 64, 256] v _ (ix3 a ch w)).trans (congrArg v ?_)
  funext x; match x with | ⟨0, _⟩ => rfl | ⟨1, _⟩ => rfl | ⟨2, _⟩ => rfl | ⟨3, _⟩ => rfl

/-- The columns from `o` on, at an index. -/
theorem columns_apply (g : Vec Ideal S16x256x64 .bf16) (o : ℕ) (ho : o + 144 ≤ 256) (h1 : S16x256x64.Slices ![0, o, 0] S16x144x64)
    (h2 : S16x144x64.ShapeCasts S1x16x144x64) (a : Fin 16) (q : Fin 144) (ch : Fin 64) :
    shapeCast S1x16x144x64 (extractStridedSlice S16x144x64 ![0, o, 0] g h1) h2 (ix4 0 a q ch) = g (ix3 a ⟨o + q.val, by omega⟩ ch) := by
  have e : (fun b : Fin 3 => ix4 (0 : Fin 1) a q ch b.succ) = ix3 a q ch := by
    funext x; match x with | ⟨0, _⟩ => rfl | ⟨1, _⟩ => rfl | ⟨2, _⟩ => rfl
  refine (shapeCast_addUnit_apply ![16, 144, 64] _ h2 (ix4 0 a q ch)).trans ?_
  refine (congrArg (extractStridedSlice S16x144x64 ![0, o, 0] g h1) e).trans ?_
  refine extractStridedSlice_apply ![0, o, 0] g h1 (ix3 a q ch) _ fun b => ?_
  match b with
  | ⟨0, _⟩ => show a.val = 0 + a.val; omega
  | ⟨1, _⟩ => rfl
  | ⟨2, _⟩ => show ch.val = 0 + ch.val; omega

/-- The columns from 0 on, at an index. -/
theorem pack_left (v : Vec Ideal S1x16x64x256 .f32) (a : Fin 16) (q : Fin 144) (ch : Fin 64) :
    k0_pay3 v (ix4 0 a q ch) = v (ix4 0 a ch ⟨0 + q.val, by omega⟩) :=
  (columns_apply (k0_pay1 v) 0 (by decide) _ _ a q ch).trans (swapped_apply v _ _ _)

/-- The columns from 112 on, at an index. -/
theorem pack_right (v : Vec Ideal S1x16x64x256 .f32) (a : Fin 16) (q : Fin 144) (ch : Fin 64) :
    k0_pay4 v (ix4 0 a q ch) = v (ix4 0 a ch ⟨112 + q.val, by omega⟩) :=
  (columns_apply (k0_pay1 v) 112 (by decide) _ _ a q ch).trans (swapped_apply v _ _ _)

/-- The zero columns, at an index. -/
theorem pack_zero (j : S1x16x16x64.Idx) : (k0_pay2 (F := Ideal)) j = 0 ∧ (k0_pay5 (F := Ideal)) j = 0 :=
  ⟨ofBits_zero_bf16, ofBits_zero_bf16⟩

section Body

variable (c : Dev nD) (i : grid0.Coords) (arg2 : Memref sig .tc .vmem S1x16x64x256 .f32) (harg2 : arg2.IsWhole)
  (arg3 : Memref sig .tc .vmem S1x16x160x128 .bf16) (harg3 : arg3.IsWhole) (x0 : Vec Ideal S1x16x64x256 .f32)

/-- The block of the first and last points: zero. -/
theorem pack_A (hc : cond0_0 i) (a : Fin 16) (q : Fin 160) (l : Fin 128) :
    out0_A_1 c i arg2 harg2 arg3 harg3 hc x0 (ix4 0 a q l) = 0 := by
  unfold out0_A_1
  rw [View.read_writes_junk_eq_canon]
  unfold kernelRun0_A
  dsimp only
  refine (canon_pack _ 0 0 160 128 _ _ a q l).trans ?_
  rw [dif_pos (by omega)]
  exact ofBits_zero_bf16

/-- A whole block of the image read through its buffer. -/
theorem read_block (h : ∀ b, (![0, 0, 0, 0] : Fin 4 → ℕ) b + S1x16x64x256.size b ≤ S1x16x64x256.size b) :
    View.readAt (Elt Ideal) arg2.view (Rect.unit (s := S1x16x64x256) ![0, 0, 0, 0] S1x16x64x256.size h).toLoadRect (harg2.unread x0) = x0 := by
  funext j
  rw [View.readAt_apply, harg2.read_unread]
  refine congrArg x0 ?_
  funext b; apply Fin.ext
  match b with
  | ⟨0, _⟩ => show 0 + 1 * (j 0).val = (j 0).val; omega
  | ⟨1, _⟩ => show 0 + 1 * (j 1).val = (j 1).val; omega
  | ⟨2, _⟩ => show 0 + 1 * (j 2).val = (j 2).val; omega
  | ⟨3, _⟩ => show 0 + 1 * (j 3).val = (j 3).val; omega

/-- The block of the points between: the image's sixteen rows, padded and packed. -/
theorem pack_B (hc : ¬cond0_0 i) (a : Fin 16) (q : Fin 160) (l : Fin 128) :
    out0_B_1 c i arg2 harg2 arg3 harg3 hc x0 (ix4 0 a q l)
      = if h : 16 ≤ q.val + 128 * (l.val / 64) ∧ q.val + 128 * (l.val / 64) < 272 then
          x0 (ix4 0 a (⟨l.val % 64, by omega⟩ : Fin 64) (⟨q.val + 128 * (l.val / 64) - 16, by omega⟩ : Fin 256)) else 0 := by
  have hq := q.isLt
  have hl := l.isLt
  unfold out0_B_1
  rw [View.read_writes_junk_eq_canon]
  unfold kernelRun0_B
  dsimp only
  refine (canon_pack _ 144 64 16 64 _ _ a q l).trans ?_
  split
  · next g => rw [dif_neg (by omega)]; exact (pack_zero _).2
  refine (canon_pack _ 0 64 144 64 _ _ a q l).trans ?_
  split
  · next g =>
    rw [dif_pos (by omega)]
    refine (pack_right _ a _ _).trans ?_
    rw [read_block]
    refine congrArg x0 ?_
    refine congrArg₂ (ix4 (0 : Fin 1) a) (Fin.ext ?_) (Fin.ext ?_)
    · show l.val - 64 = l.val % 64; omega
    · show 112 + (q.val - 0) = q.val + 128 * (l.val / 64) - 16; omega
  refine (canon_pack _ 16 0 144 64 _ _ a q l).trans ?_
  split
  · next g =>
    rw [dif_pos (by omega)]
    refine (pack_left _ a _ _).trans ?_
    rw [read_block]
    refine congrArg x0 ?_
    refine congrArg₂ (ix4 (0 : Fin 1) a) (Fin.ext ?_) (Fin.ext ?_)
    · show l.val - 0 = l.val % 64; omega
    · show 0 + (q.val - 16) = q.val + 128 * (l.val / 64) - 16; omega
  refine (canon_pack _ 0 0 16 64 _ _ a q l).trans ?_
  rw [dif_pos (by omega), dif_neg (by omega)]
  exact (pack_zero _).1

end Body

/-! ## The launch -/

/-- The input's block at the points that read it, and the result's block at every point. -/
theorem idx_pack : ∀ t : Fin cfg0.N,
    (win0_1.index t 0 = t.val / 18 ∧ win0_1.index t 1 = t.val % 18 ∧ win0_1.index t 2 = 0 ∧ win0_1.index t 3 = 0)
    ∧ ((1 ≤ t.val % 18 ∧ t.val % 18 ≤ 16) →
      win0_0.index t 0 = t.val / 18 ∧ win0_0.index t 1 = t.val % 18 - 1 ∧ win0_0.index t 2 = 0 ∧ win0_0.index t 3 = 0) :=
  (by decide +kernel : ∀ t : Fin grid0.N, _)

section Launch

variable (V : (c : Dev nD) → (b : Ref sig .tc) → Buf (Elt Ideal) ((c : Thread nD τ).loc b)) (c : Dev nD)
  {x : ℕ → ℕ → ℕ → ℕ → EReal}
  (hX : ∀ (b : Fin 8) (h : Fin 256) (ch : Fin 64) (w : Fin 256), (V c main_v8 : Vec Ideal S8x256x64x256 .f32) (ix4 b h ch w) = x b.val h.val w.val ch.val)

/-- The packed array. -/
def packArr (x : ℕ → ℕ → ℕ → ℕ → EReal) : Vec Ideal S8x288x160x128 .bf16 := fun j => packed x (j 0).val (j 1).val (j 2).val (j 3).val

include hX in
/-- What a point writes back is its block of the packed array. -/
theorem flushed_pack (t : Fin cfg0.N) : (dat0 V c).flushed 1 t = ((cfg0.win 1).blk t).view.read (Elt Ideal) (packArr x) := by
  have ht : t.val < 144 := t.isLt
  obtain ⟨⟨e0, e1, e2, e3⟩, hin⟩ := idx_pack t
  show (cfg0.win 1).cut (cfg0.grid.coords t) ((dat0 V c).after 1 t) = _
  rw [after0_1]
  funext j
  obtain ⟨z, a, q, l, rfl⟩ : ∃ (z : Fin 1) (a : Fin 16) (q : Fin 160) (l : Fin 128), j = ix4 z a q l := ⟨_, _, _, _, eq_ix4 j⟩
  obtain rfl : z = 0 := Subsingleton.elim _ _
  have e : ((cfg0.win 1).blk t).view.emb (ix4 (0 : Fin 1) a q l) = ix4 (⟨t.val / 18, by omega⟩ : Fin 8) (⟨16 * (t.val % 18) + a.val, by omega⟩ : Fin 288) q l := by
    funext x; apply Fin.ext
    match x with
    | ⟨0, _⟩ => show win0_1.index t 0 * 1 + 1 * 0 = t.val / 18; omega
    | ⟨1, _⟩ => show win0_1.index t 1 * 16 + 1 * a.val = 16 * (t.val % 18) + a.val; omega
    | ⟨2, _⟩ => show win0_1.index t 2 * 160 + 1 * q.val = q.val; omega
    | ⟨3, _⟩ => show win0_1.index t 3 * 128 + 1 * l.val = l.val; omega
  show outsAt0 V c t.val t.isLt (ix4 0 a q l) = packArr x (((cfg0.win 1).blk t).view.emb (ix4 (0 : Fin 1) a q l))
  rw [e]
  show _ = packed x (t.val / 18) (16 * (t.val % 18) + a.val) q.val l.val
  unfold packed img
  by_cases h0 : 1 ≤ t.val % 18 ∧ t.val % 18 ≤ 16
  · obtain ⟨f0, f1, f2, f3⟩ := hin h0
    rw [outsAt0_B V c t (not_not.mpr h0), pack_B]
    split
    · next g =>
      rw [if_pos ⟨by omega, g⟩]
      have e' : ((cfg0.win 0).blk t).view.emb (ix4 (0 : Fin 1) a (⟨l.val % 64, by omega⟩ : Fin 64) (⟨q.val + 128 * (l.val / 64) - 16, by omega⟩ : Fin 256))
          = ix4 (⟨t.val / 18, by omega⟩ : Fin 8) (⟨16 * (t.val % 18) + a.val - 16, by omega⟩ : Fin 256) (⟨l.val % 64, by omega⟩ : Fin 64) (⟨q.val + 128 * (l.val / 64) - 16, by omega⟩ : Fin 256) := by
        funext x; apply Fin.ext
        match x with
        | ⟨0, _⟩ => show win0_0.index t 0 * 1 + 1 * 0 = t.val / 18; omega
        | ⟨1, _⟩ => show win0_0.index t 1 * 16 + 1 * a.val = 16 * (t.val % 18) + a.val - 16; omega
        | ⟨2, _⟩ => show win0_0.index t 2 * 64 + 1 * (l.val % 64) = l.val % 64; omega
        | ⟨3, _⟩ => show win0_0.index t 3 * 256 + 1 * (q.val + 128 * (l.val / 64) - 16) = q.val + 128 * (l.val / 64) - 16; omega
      exact (congrArg (V c main_v8) e').trans (hX _ _ _ _)
    · next g => rw [if_neg (fun hh => g hh.2)]
  · rw [outsAt0_A V c t h0, pack_A, if_neg]
    rintro ⟨hh, -⟩
    omega

/-- Every element of the packed array is in some point's block. -/
theorem covered_pack (i : S8x288x160x128.Idx) : ∃ t : Fin cfg0.N, (cfg0.win 1).flush t = true ∧ i ∈ ((cfg0.win 1).blk t).view.set := by
  have h0 : (i 0).val < 8 := (i 0).isLt
  have h1 : (i 1).val < 288 := (i 1).isLt
  have h2 : (i 2).val < 160 := (i 2).isLt
  have h3 : (i 3).val < 128 := (i 3).isLt
  let t : Fin cfg0.N := ⟨18 * (i 0).val + (i 1).val / 16, (show _ < 144 by omega)⟩
  obtain ⟨⟨e0, e1, e2, e3⟩, -⟩ := idx_pack t
  have t0 : t.val / 18 = (i 0).val := by show (18 * (i 0).val + (i 1).val / 16) / 18 = _; omega
  have t1 : t.val % 18 = (i 1).val / 16 := by show (18 * (i 0).val + (i 1).val / 16) % 18 = _; omega
  have e : ((cfg0.win 1).blk t).view.emb (ix4 (0 : Fin 1) (⟨(i 1).val % 16, by omega⟩ : Fin 16) (⟨(i 2).val, h2⟩ : Fin 160) (⟨(i 3).val, h3⟩ : Fin 128)) = i := by
    funext x; apply Fin.ext
    match x with
    | ⟨0, _⟩ => show win0_1.index t 0 * 1 + 1 * 0 = (i 0).val; omega
    | ⟨1, _⟩ => show win0_1.index t 1 * 16 + 1 * ((i 1).val % 16) = (i 1).val; omega
    | ⟨2, _⟩ => show win0_1.index t 2 * 160 + 1 * (i 2).val = (i 2).val; omega
    | ⟨3, _⟩ => show win0_1.index t 3 * 128 + 1 * (i 3).val = (i 3).val; omega
  refine ⟨t, flush0_1 t, ?_⟩
  have hm := ((cfg0.win 1).blk t).view.emb_mem_set (ix4 (0 : Fin 1) (⟨(i 1).val % 16, by omega⟩ : Fin 16) (⟨(i 2).val, h2⟩ : Fin 160) (⟨(i 3).val, h3⟩ : Fin 128))
  rwa [e] at hm

include hX in
/-- The packed array after the launch. -/
theorem final_pack : (dat0 V c).arrAt 1 cfg0.N = packArr x :=
  (dat0 V c).arrAt_eq_of_cover 1 _ (fun t _ => flushed_pack V c hX t) covered_pack

end Launch

end Cert.Value
-- ==== Proof.Maths.lean ====
/- The mathematics both programs share: the nine taps' sum over the sixty-four channels, the normalisation in its two forms and
   the activation in its two forms. -/
module

public import proofs.«01_k».proof.Proof.Epilogue
public import proofs.«01_k».proof.Proof.Conv
public import proofs.«01_k».proof.Proof.Repack
public import Idealize.ShloMosaic.Lib.IdealHost

@[expose] public section

noncomputable section

namespace Cert.Value

open Idealize.ShloMosaic Idealize.ShloMosaic.ValueIdx
open Cert.KernelIdeal

/-- An image batch read at natural numbers, zero outside its extents. -/
def nat4 (v : S8x256x256x64.Idx → EReal) (b h w ch : ℕ) : EReal :=
  if hh : (b < 8 ∧ h < 256) ∧ (w < 256 ∧ ch < 64) then
    v (ix4 (⟨b, hh.1.1⟩ : Fin 8) (⟨h, hh.1.2⟩ : Fin 256) (⟨w, hh.2.1⟩ : Fin 256) (⟨ch, hh.2.2⟩ : Fin 64)) else 0

/-- `nat4` at an index of the array is the array there. -/
theorem nat4_apply (v : S8x256x256x64.Idx → EReal) (b : Fin 8) (h w : Fin 256) (ch : Fin 64) :
    nat4 v b.val h.val w.val ch.val = v (ix4 b h w ch) := by
  unfold nat4; rw [dif_pos ⟨⟨b.isLt, h.isLt⟩, w.isLt, ch.isLt⟩]

/-- The shared kernel's matrix of tap `t` (row `t / 3`, column `t % 3`) read at natural numbers, zero outside its extents. -/
def ker (k : S3x3x64x64.Idx → EReal) (t i o : ℕ) : EReal :=
  if hh : t < 9 ∧ i < 64 ∧ o < 64 then
    k (ix4 (⟨t / 3, by omega⟩ : Fin 3) (⟨t % 3, by omega⟩ : Fin 3) (⟨i, hh.2.1⟩ : Fin 64) (⟨o, hh.2.2⟩ : Fin 64)) else 0

/-- Two copies of tap `t`'s matrix on the diagonal of a matrix twice the size. -/
def diag (k : S3x3x64x64.Idx → EReal) (t l o : ℕ) : EReal := if l / 64 = o / 64 then ker k t (l % 64) (o % 64) else 0

/-- Tap `t` at dilation `2 ^ e`, output pixel `(h, w)` and output channel `o`: the sum over the channels. -/
def tap (x : ℕ → ℕ → ℕ → ℕ → EReal) (k : S3x3x64x64.Idx → EReal) (b e h w o t : ℕ) : EReal :=
  ∑ ch : Fin 64, img x b (row t e + h) (col t e + w) ch.val * ker k t ch.val o

/-- The taps up to `t`, added in order. -/
def taps (x : ℕ → ℕ → ℕ → ℕ → EReal) (k : S3x3x64x64.Idx → EReal) (b e h w o : ℕ) : ℕ → EReal
  | 0 => tap x k b e h w o 0
  | t + 1 => taps x k b e h w o t + tap x k b e h w o (t + 1)

/-- A product over the packed lanes is the product over the channels of the half the output lane lies in: the other half meets
    the zero blocks. -/
theorem pt_packed (x : ℕ → ℕ → ℕ → ℕ → EReal) (k : S3x3x64x64.Idx → EReal) (b i t p q l : ℕ) (hl : l < 128) :
    pt (rows (packed x) b i) (diag k) t p q l
      = ∑ ch : Fin 64, img x b (16 * i + p) (q + 128 * (l / 64)) ch.val * ker k t ch.val (l % 64) := by
  unfold pt
  rw [show (∑ c : Fin 128, rows (packed x) b i p q c.val * diag k t c.val l)
      = ∑ c : Fin (64 + 64), rows (packed x) b i p q c.val * diag k t c.val l from rfl, Fin.sum_univ_add]
  have hlo : ∀ ch : Fin 64, (Fin.castAdd 64 ch).val / 64 = 0 ∧ (Fin.castAdd 64 ch).val % 64 = ch.val := fun ch => by
    have := ch.isLt; simp only [Fin.val_castAdd]; omega
  have hhi : ∀ ch : Fin 64, (Fin.natAdd 64 ch).val / 64 = 1 ∧ (Fin.natAdd 64 ch).val % 64 = ch.val := fun ch => by
    have := ch.isLt; simp only [Fin.val_natAdd]; omega
  rcases (by omega : l / 64 = 0 ∨ l / 64 = 1) with h | h
  · rw [Finset.sum_congr rfl fun ch _ => show _ = img x b (16 * i + p) (q + 128 * (l / 64)) ch.val * ker k t ch.val (l % 64) from by
        unfold rows packed diag; rw [(hlo ch).1, (hlo ch).2, if_pos h.symm, h],
      Finset.sum_congr (s₁ := Finset.univ) (f := fun ch : Fin 64 => rows (packed x) b i p q (Fin.natAdd 64 ch).val * diag k t (Fin.natAdd 64 ch).val l)
        (g := fun _ => 0) rfl fun ch _ => by
          unfold diag; rw [(hhi ch).1, if_neg (by omega), mul_zero]]
    rw [Finset.sum_const_zero, add_zero]
  · rw [Finset.sum_congr (s₁ := Finset.univ) (f := fun ch : Fin 64 => rows (packed x) b i p q (Fin.castAdd 64 ch).val * diag k t (Fin.castAdd 64 ch).val l)
        (g := fun _ => 0) rfl fun ch _ => by
          unfold diag; rw [(hlo ch).1, if_neg (by omega), mul_zero],
      Finset.sum_congr rfl fun ch _ => show rows (packed x) b i p q (Fin.natAdd 64 ch).val * diag k t (Fin.natAdd 64 ch).val l
          = img x b (16 * i + p) (q + 128 * (l / 64)) ch.val * ker k t ch.val (l % 64) from by
        unfold rows packed diag; rw [(hhi ch).1, (hhi ch).2, if_pos h.symm, h]]
    rw [Finset.sum_const_zero, zero_add]

/-- The launch's nine-tap sum at a lane is the sum over the channels at the pixel and channel the lane stands for. -/
theorem part_packed (x : ℕ → ℕ → ℕ → ℕ → EReal) (k : S3x3x64x64.Idx → EReal) (b e h w o : ℕ) (hw : w < 256) (ho : o < 64) (t : ℕ) :
    part (rows (packed x) b (h / 16)) (diag k) t e (h % 16) (w % 128) (o + 64 * (w / 128)) = taps x k b e h w o t := by
  have hp : ∀ t, pt (rows (packed x) b (h / 16)) (diag k) t (row t e + h % 16) (col t e + w % 128) (o + 64 * (w / 128))
      = tap x k b e h w o t := fun t => by
    rw [pt_packed _ _ _ _ _ _ _ _ (by omega)]
    unfold tap
    rw [show 16 * (h / 16) + (row t e + h % 16) = row t e + h by omega,
      show col t e + w % 128 + 128 * ((o + 64 * (w / 128)) / 64) = col t e + w by omega,
      show (o + 64 * (w / 128)) % 64 = o by omega]
  induction t with
  | zero => unfold part taps; exact hp 0
  | succ t ih => unfold part taps; rw [ih, hp]

/-- Multiplying a finite number into a sum with a finite term. -/
theorem add_real_mul (y : EReal) (m s : ℝ) : (y + (m : EReal)) * (s : EReal) = y * s + m * s := by
  induction y with
  | coe y => norm_cast; ring
  | top =>
    rw [EReal.top_add_coe]
    rcases lt_trichotomy s 0 with h | h | h
    · rw [EReal.top_mul_coe_of_neg h, ← EReal.coe_mul, EReal.bot_add]
    · subst h; simp
    · rw [EReal.top_mul_coe_of_pos h, ← EReal.coe_mul, EReal.top_add_coe]
  | bot =>
    rw [EReal.bot_add]
    rcases lt_trichotomy s 0 with h | h | h
    · rw [EReal.bot_mul_coe_of_neg h, ← EReal.coe_mul, EReal.top_add_coe]
    · subst h; simp
    · rw [EReal.bot_mul_coe_of_pos h, ← EReal.coe_mul, EReal.bot_add]

/-- The normalisation in its two forms: with a finite scale and a finite mean, subtracting the mean before scaling is adding the
    scaled mean's negative to the offset. -/
theorem norm_eq (y s b m : EReal) (hs : s ≠ ⊥ ∧ s ≠ ⊤) (hm : m ≠ ⊥ ∧ m ≠ ⊤) : (y - m) * s + b = y * s + (b - m * s) := by
  lift s to ℝ using ⟨hs.2, hs.1⟩
  lift m to ℝ using ⟨hm.2, hm.1⟩
  rw [sub_eq_add_neg, ← EReal.coe_neg, add_real_mul, sub_eq_add_neg, ← EReal.coe_mul, ← EReal.coe_mul, neg_mul, EReal.coe_neg,
    add_assoc, add_comm b]

/-- The activation in its two forms: the complementary error function at the negated argument is one more than the error
    function. -/
theorem gelu_erfc (z : EReal) :
    (Ideal.ofBits .f32 0x3F000000#32 * z) * Ideal.erfc (-z * Ideal.ofBits .f32 0x3F3504F3#32) = gelu z := by
  unfold gelu
  rw [EReal.neg_mul, Ideal.erfc_neg, Ideal.ofBits_one_f32]

end Cert.Value
-- ==== Proof.Host.lean ====
/- The kernel program's host operations between its launches, and its five results, read at an index. -/
module

public import proofs.«01_k».proof.Proof.Maths

@[expose] public section

set_option maxRecDepth 16384

noncomputable section

namespace Cert.Value

open Idealize.ShloMosaic Idealize.ShloMosaic.ValueIdx Idealize.ShloMosaic.TcCoe Idealize.ShloMosaic.StableHlo
open Cert.KernelIdeal Cert.KernelIdeal.Gen

variable (m : (ℓ : Loc nD τ sig) → Buf (Elt Ideal) ℓ) (ρ : Dev nD → PrngReg) (c : Dev nD)

/-- The image batch at launch. -/
abbrev a0 : S8x256x256x64.Idx → EReal := m ((c : Thread nD τ).loc main_arg0)
/-- The shared kernel at launch. -/
abbrev a1 : S3x3x64x64.Idx → EReal := m ((c : Thread nD τ).loc main_arg1)
/-- The gammas at launch. -/
abbrev a2 : S5x64.Idx → EReal := m ((c : Thread nD τ).loc main_arg2)
/-- The betas at launch. -/
abbrev a3 : S5x64.Idx → EReal := m ((c : Thread nD τ).loc main_arg3)
/-- The moving means at launch. -/
abbrev a4 : S5x64.Idx → EReal := m ((c : Thread nD τ).loc main_arg4)
/-- The moving variances at launch. -/
abbrev a5 : S5x64.Idx → EReal := m ((c : Thread nD τ).loc main_arg5)

/-- The normalisation's scale: gamma over the square root of the variance and the small constant. -/
def scaleOf (g v : S5x64.Idx → EReal) : S5x64.Idx → EReal :=
  mulf (F := Ideal) (φ := .f32) g (Host.rsqrt (φ := .f32) (addf (φ := .f32) v (broadcastInDim S5x64 ![] bcast_S_S5x64 (constant (F := Ideal) S_ .f32 0x3A83126F#32))))

/-- A table beside itself along the channels, at a lane. -/
theorem twice_apply (g : S5x64.Idx → EReal) (h : Shape.Concatenates [S5x64, S5x64] S5x128 1) (d : Fin 5) (l : Fin 128) (o : Fin 64)
    (ho : l.val % 64 = o.val) : concatenate S5x128 1 [⟨S5x64, g⟩, ⟨S5x64, g⟩] h (ix2 d l) = g (ix2 d o) := by
  by_cases hl : l.val < 64
  · exact concatenate_pair_apply_left (1 : Fin S5x128.rank) g g h (ix2 d l) rfl (ix2 d o) (fun a => by
      match a with
      | ⟨0, _⟩ => rfl
      | ⟨1, _⟩ => show o.val = l.val; omega)
  · exact concatenate_pair_apply_right (1 : Fin S5x128.rank) g g h (ix2 d l) rfl rfl (ix2 d o) (fun a hne => by
      match a with
      | ⟨0, _⟩ => rfl
      | ⟨1, _⟩ => exact absurd rfl hne) (by show o.val + 64 = l.val; have := l.isLt; omega)

/-- The transposed image at an index. -/
theorem image_apply (b : Fin 8) (h : Fin 256) (ch : Fin 64) (w : Fin 256) :
    (V1 m ρ c main_v8 : Vec Ideal S8x256x64x256 .f32) (ix4 b h ch w) = nat4 (a0 m c) b.val h.val w.val ch.val := by
  have e : (V1 m ρ c main_v8 : Vec Ideal S8x256x64x256 .f32)
      = transpose S8x256x64x256 [0, 1, 3, 2] (a0 m c) transposes_S8x256x256x64_S8x256x64x256_0_1_3_2 := by
    show after hostOps0 (W0 m ρ c) (Proc.devRef .tc main_v8) = _
    after_results
  rw [e, nat4_apply]
  exact transpose_apply _ _ _ _ (ix4 b h w ch) (fun a => by
    match a with
    | ⟨0, _⟩ => rfl
    | ⟨1, _⟩ => rfl
    | ⟨2, _⟩ => rfl
    | ⟨3, _⟩ => rfl)

/-- The packed image, as the convolution's launch finds it. -/
theorem packed_apply (b : Fin 8) (p : Fin 288) (q : Fin 160) (l : Fin 128) :
    (V3 m ρ c main_v9 : Vec Ideal S8x288x160x128 .bf16) (ix4 b p q l) = packed (nat4 (a0 m c)) b.val p.val q.val l.val := by
  have e : (V3 m ρ c main_v9 : Vec Ideal S8x288x160x128 .bf16) = packArr (nat4 (a0 m c)) :=
    (W3_of m ρ c main_v9 (by decide)).trans ((W2_arr m ρ c 1).trans (final_pack (V1 m ρ) c (image_apply m ρ c)))
  rw [e]; rfl

/-- The scales, as the convolution's launch finds them. -/
theorem scale_apply (d : Fin 5) (l : Fin 128) (o : Fin 64) (ho : l.val % 64 = o.val) :
    (V3 m ρ c main_v6 : Vec Ideal S5x128 .f32) (ix2 d l) = scaleOf (a2 m c) (a5 m c) (ix2 d o) := by
  have e : (V3 m ρ c main_v6 : Vec Ideal S5x128 .f32)
      = concatenate S5x128 1 [⟨S5x64, scaleOf (a2 m c) (a5 m c)⟩, ⟨S5x64, scaleOf (a2 m c) (a5 m c)⟩] concatenates_S5x64_S5x64_S5x128_d1 := by
    refine ((W3_of m ρ c main_v6 (by decide)).trans (W2_of m ρ c main_v6 (by decide))).trans ?_
    show after hostOps0 (W0 m ρ c) (Proc.devRef .tc main_v6) = _
    after_results
    rfl
  rw [e]; exact twice_apply _ _ d l o ho

/-- The offsets, as the convolution's launch finds them. -/
theorem shift_apply (d : Fin 5) (l : Fin 128) (o : Fin 64) (ho : l.val % 64 = o.val) :
    (V3 m ρ c main_v7 : Vec Ideal S5x128 .f32) (ix2 d l)
      = a3 m c (ix2 d o) - a4 m c (ix2 d o) * scaleOf (a2 m c) (a5 m c) (ix2 d o) := by
  have e : (V3 m ρ c main_v7 : Vec Ideal S5x128 .f32)
      = concatenate S5x128 1 [⟨S5x64, subf (F := Ideal) (φ := .f32) (a3 m c) (mulf (φ := .f32) (a4 m c) (scaleOf (a2 m c) (a5 m c)))⟩,
          ⟨S5x64, subf (F := Ideal) (φ := .f32) (a3 m c) (mulf (φ := .f32) (a4 m c) (scaleOf (a2 m c) (a5 m c)))⟩] concatenates_S5x64_S5x64_S5x128_d1 := by
    refine ((W3_of m ρ c main_v7 (by decide)).trans (W2_of m ρ c main_v7 (by decide))).trans ?_
    show after hostOps0 (W0 m ρ c) (Proc.devRef .tc main_v7) = _
    after_results
    rfl
  rw [e]; exact twice_apply _ _ d l o ho

/-- The shared kernel as nine matrices, at an index. -/
theorem nine_apply (k : S3x3x64x64.Idx → EReal) (h : S3x3x64x64.ShapeCasts S9x64x64) (t : Fin 9) (i o : Fin 64) :
    shapeCast S9x64x64 k h (ix3 t i o) = ker k t.val i.val o.val := by
  rw [shapeCast_apply k h (ix3 t i o) (ix4 (⟨t.val / 3, by omega⟩ : Fin 3) (⟨t.val % 3, by omega⟩ : Fin 3) i o)
    (by
      rw [Shape.rowMajor_val_four, Shape.rowMajor_val_three]
      show ((t.val / 3 * 3 + t.val % 3) * 64 + i.val) * 64 + o.val = (t.val * 64 + i.val) * 64 + o.val
      omega)]
  unfold ker
  rw [dif_pos ⟨t.isLt, i.isLt, o.isLt⟩]

/-- Two blocks of columns side by side, at an index. -/
theorem beside_apply (x y : S9x64x64.Idx → EReal) (h : Shape.Concatenates [S9x64x64, S9x64x64] S9x64x128 2) (t : Fin 9) (i : Fin 64) (o : Fin 128)
    (o' : Fin 64) (ho : o.val % 64 = o'.val) :
    concatenate S9x64x128 2 [⟨S9x64x64, x⟩, ⟨S9x64x64, y⟩] h (ix3 t i o) = if o.val / 64 = 0 then x (ix3 t i o') else y (ix3 t i o') := by
  by_cases hl : o.val < 64
  · rw [if_pos (by omega)]
    exact concatenate_pair_apply_left (2 : Fin S9x64x128.rank) x y h (ix3 t i o) rfl (ix3 t i o') (fun a => by
      match a with
      | ⟨0, _⟩ => rfl
      | ⟨1, _⟩ => rfl
      | ⟨2, _⟩ => show o'.val = o.val; omega)
  · rw [if_neg (by omega)]
    exact concatenate_pair_apply_right (2 : Fin S9x64x128.rank) x y h (ix3 t i o) rfl rfl (ix3 t i o') (fun a hne => by
      match a with
      | ⟨0, _⟩ => rfl
      | ⟨1, _⟩ => rfl
      | ⟨2, _⟩ => exact absurd rfl hne) (by show o'.val + 64 = o.val; have := o.isLt; omega)

/-- Two blocks of rows one above the other, at an index. -/
theorem above_apply (x y : S9x64x128.Idx → EReal) (h : Shape.Concatenates [S9x64x128, S9x64x128] S9x128x128 1) (t : Fin 9) (l o : Fin 128)
    (l' : Fin 64) (hl' : l.val % 64 = l'.val) :
    concatenate S9x128x128 1 [⟨S9x64x128, x⟩, ⟨S9x64x128, y⟩] h (ix3 t l o) = if l.val / 64 = 0 then x (ix3 t l' o) else y (ix3 t l' o) := by
  by_cases hl : l.val < 64
  · rw [if_pos (by omega)]
    exact concatenate_pair_apply_left (1 : Fin S9x128x128.rank) x y h (ix3 t l o) rfl (ix3 t l' o) (fun a => by
      match a with
      | ⟨0, _⟩ => rfl
      | ⟨1, _⟩ => show l'.val = l.val; omega
      | ⟨2, _⟩ => rfl)
  · rw [if_neg (by omega)]
    exact concatenate_pair_apply_right (1 : Fin S9x128x128.rank) x y h (ix3 t l o) rfl rfl (ix3 t l' o) (fun a hne => by
      match a with
      | ⟨0, _⟩ => rfl
      | ⟨1, _⟩ => exact absurd rfl hne
      | ⟨2, _⟩ => rfl) (by show l'.val + 64 = l.val; have := l.isLt; omega)

/-- The block diagonal matrices, as the convolution's launch finds them. -/
theorem diag_apply (t : Fin 9) (l o : Fin 128) :
    (V3 m ρ c main_v15 : Vec Ideal S9x128x128 .bf16) (ix3 t l o) = diag (a1 m c) t.val l.val o.val := by
  have ea : W2 m ρ c (Proc.devRef .tc main_arg1) = m ((c : Thread nD τ).loc main_arg1) := W2_args m ρ c main_arg1 (by decide)
  let z : S9x64x64.Idx → EReal := broadcastInDim S9x64x64 ![] bcast_S_S9x64x64 (constant (F := Ideal) S_ .bf16 0x0000#16)
  let k : S9x64x64.Idx → EReal := shapeCast S9x64x64 (a1 m c) shapeCasts_S3x3x64x64_S9x64x64
  have e : (V3 m ρ c main_v15 : Vec Ideal S9x128x128 .bf16)
      = concatenate S9x128x128 1 [⟨S9x64x128, concatenate S9x64x128 2 [⟨S9x64x64, k⟩, ⟨S9x64x64, z⟩] concatenates_S9x64x64_S9x64x64_S9x64x128_d2⟩,
          ⟨S9x64x128, concatenate S9x64x128 2 [⟨S9x64x64, z⟩, ⟨S9x64x64, k⟩] concatenates_S9x64x64_S9x64x64_S9x64x128_d2⟩]
          concatenates_S9x64x128_S9x64x128_S9x128x128_d1 := by
    show after hostOps1 (W2 m ρ c) (Proc.devRef .tc main_v15) = _
    after_results
    rw [ea]
    rfl
  have hz : ∀ j, z j = 0 := fun j => ofBits_zero_bf16
  rw [e, above_apply _ _ _ t l o (⟨l.val % 64, by omega⟩ : Fin 64) rfl,
    beside_apply _ _ _ t _ o (⟨o.val % 64, by omega⟩ : Fin 64) rfl, beside_apply _ _ _ t _ o (⟨o.val % 64, by omega⟩ : Fin 64) rfl,
    hz, show k (ix3 t (⟨l.val % 64, by omega⟩ : Fin 64) (⟨o.val % 64, by omega⟩ : Fin 64)) = ker (a1 m c) t.val (l.val % 64) (o.val % 64)
      from nine_apply _ _ _ _ _]
  unfold diag
  have hl := l.isLt
  have ho := o.isLt
  split_ifs <;> first | rfl | omega

/-- The value the kernel leaves at a pixel and an output channel, of the arguments. -/
def kerVal (d : Fin 5) (b : Fin 8) (h w : Fin 256) (o : Fin 64) : EReal :=
  gelu (taps (nat4 (a0 m c)) (a1 m c) b.val d.val h.val w.val o.val 8 * scaleOf (a2 m c) (a5 m c) (ix2 d o)
    + (a3 m c (ix2 d o) - a4 m c (ix2 d o) * scaleOf (a2 m c) (a5 m c) (ix2 d o)))

/-- The convolution's array, its last two axes exchanged, at an index. -/
theorem result_apply (d : Fin 5) (h' : S8x256x64x256.Transposes [0, 1, 3, 2] S8x256x256x64) (b : Fin 8) (h w : Fin 256) (o : Fin 64) :
    transpose S8x256x256x64 [0, 1, 3, 2] (convArr (packed (nat4 (a0 m c))) (diag (a1 m c)) (V3 m ρ c main_v6) (V3 m ρ c main_v7) d) h' (ix4 b h w o)
      = kerVal m c d b h w o := by
  rw [transpose_apply _ _ h' _ (ix4 b h o w) (fun a => by
    match a with
    | ⟨0, _⟩ => rfl
    | ⟨1, _⟩ => rfl
    | ⟨2, _⟩ => rfl
    | ⟨3, _⟩ => rfl)]
  rw [convArr_apply]
  unfold outVal kerVal
  have ho := o.isLt
  rw [part_packed _ _ _ _ _ _ _ w.isLt o.isLt, scale_apply m ρ c d _ o (by show (o.val + 64 * (w.val / 128)) % 64 = o.val; omega),
    shift_apply m ρ c d _ o (by show (o.val + 64 * (w.val / 128)) % 64 = o.val; omega)]

/-- Result 1 of the kernel's program, at an index. -/
theorem kernel_0 (b : Fin 8) (h w : Fin 256) (o : Fin 64) :
    (W5 m ρ c (Proc.devRef .tc main_v17) : Vec Ideal S8x256x256x64 .f32) (ix4 b h w o) = kerVal m c 0 b h w o := by
  have ew : W4 m ρ c (Proc.devRef .tc main_v16_0)
      = convArr (packed (nat4 (a0 m c))) (diag (a1 m c)) (V3 m ρ c main_v6) (V3 m ρ c main_v7) 0 :=
    (W4_arr m ρ c 6).trans (final_0 (V3 m ρ) c (packed_apply m ρ c) (diag_apply m ρ c))
  have e : (W5 m ρ c (Proc.devRef .tc main_v17) : Vec Ideal S8x256x256x64 .f32)
      = transpose S8x256x256x64 [0, 1, 3, 2] (convArr (packed (nat4 (a0 m c))) (diag (a1 m c)) (V3 m ρ c main_v6) (V3 m ρ c main_v7) 0)
          transposes_S8x256x64x256_S8x256x256x64_0_1_3_2 := by
    rw [← ew]
    show after hostOps2 (W4 m ρ c) (Proc.devRef .tc main_v17) = _
    after_results
  rw [e]; exact result_apply m ρ c 0 _ b h w o

/-- Result 2 of the kernel's program, at an index. -/
theorem kernel_1 (b : Fin 8) (h w : Fin 256) (o : Fin 64) :
    (W5 m ρ c (Proc.devRef .tc main_v18) : Vec Ideal S8x256x256x64 .f32) (ix4 b h w o) = kerVal m c 1 b h w o := by
  have ew : W4 m ρ c (Proc.devRef .tc main_v16_1)
      = convArr (packed (nat4 (a0 m c))) (diag (a1 m c)) (V3 m ρ c main_v6) (V3 m ρ c main_v7) 1 :=
    (W4_arr m ρ c 7).trans (final_1 (V3 m ρ) c (packed_apply m ρ c) (diag_apply m ρ c))
  have e : (W5 m ρ c (Proc.devRef .tc main_v18) : Vec Ideal S8x256x256x64 .f32)
      = transpose S8x256x256x64 [0, 1, 3, 2] (convArr (packed (nat4 (a0 m c))) (diag (a1 m c)) (V3 m ρ c main_v6) (V3 m ρ c main_v7) 1)
          transposes_S8x256x64x256_S8x256x256x64_0_1_3_2 := by
    rw [← ew]
    show after hostOps2 (W4 m ρ c) (Proc.devRef .tc main_v18) = _
    after_results
  rw [e]; exact result_apply m ρ c 1 _ b h w o

/-- Result 3 of the kernel's program, at an index. -/
theorem kernel_2 (b : Fin 8) (h w : Fin 256) (o : Fin 64) :
    (W5 m ρ c (Proc.devRef .tc main_v19) : Vec Ideal S8x256x256x64 .f32) (ix4 b h w o) = kerVal m c 2 b h w o := by
  have ew : W4 m ρ c (Proc.devRef .tc main_v16_2)
      = convArr (packed (nat4 (a0 m c))) (diag (a1 m c)) (V3 m ρ c main_v6) (V3 m ρ c main_v7) 2 :=
    (W4_arr m ρ c 8).trans (final_2 (V3 m ρ) c (packed_apply m ρ c) (diag_apply m ρ c))
  have e : (W5 m ρ c (Proc.devRef .tc main_v19) : Vec Ideal S8x256x256x64 .f32)
      = transpose S8x256x256x64 [0, 1, 3, 2] (convArr (packed (nat4 (a0 m c))) (diag (a1 m c)) (V3 m ρ c main_v6) (V3 m ρ c main_v7) 2)
          transposes_S8x256x64x256_S8x256x256x64_0_1_3_2 := by
    rw [← ew]
    show after hostOps2 (W4 m ρ c) (Proc.devRef .tc main_v19) = _
    after_results
  rw [e]; exact result_apply m ρ c 2 _ b h w o

/-- Result 4 of the kernel's program, at an index. -/
theorem kernel_3 (b : Fin 8) (h w : Fin 256) (o : Fin 64) :
    (W5 m ρ c (Proc.devRef .tc main_v20) : Vec Ideal S8x256x256x64 .f32) (ix4 b h w o) = kerVal m c 3 b h w o := by
  have ew : W4 m ρ c (Proc.devRef .tc main_v16_3)
      = convArr (packed (nat4 (a0 m c))) (diag (a1 m c)) (V3 m ρ c main_v6) (V3 m ρ c main_v7) 3 :=
    (W4_arr m ρ c 9).trans (final_3 (V3 m ρ) c (packed_apply m ρ c) (diag_apply m ρ c))
  have e : (W5 m ρ c (Proc.devRef .tc main_v20) : Vec Ideal S8x256x256x64 .f32)
      = transpose S8x256x256x64 [0, 1, 3, 2] (convArr (packed (nat4 (a0 m c))) (diag (a1 m c)) (V3 m ρ c main_v6) (V3 m ρ c main_v7) 3)
          transposes_S8x256x64x256_S8x256x256x64_0_1_3_2 := by
    rw [← ew]
    show after hostOps2 (W4 m ρ c) (Proc.devRef .tc main_v20) = _
    after_results
  rw [e]; exact result_apply m ρ c 3 _ b h w o

/-- Result 5 of the kernel's program, at an index. -/
theorem kernel_4 (b : Fin 8) (h w : Fin 256) (o : Fin 64) :
    (W5 m ρ c (Proc.devRef .tc main_v21) : Vec Ideal S8x256x256x64 .f32) (ix4 b h w o) = kerVal m c 4 b h w o := by
  have ew : W4 m ρ c (Proc.devRef .tc main_v16_4)
      = convArr (packed (nat4 (a0 m c))) (diag (a1 m c)) (V3 m ρ c main_v6) (V3 m ρ c main_v7) 4 :=
    (W4_arr m ρ c 10).trans (final_4 (V3 m ρ) c (packed_apply m ρ c) (diag_apply m ρ c))
  have e : (W5 m ρ c (Proc.devRef .tc main_v21) : Vec Ideal S8x256x256x64 .f32)
      = transpose S8x256x256x64 [0, 1, 3, 2] (convArr (packed (nat4 (a0 m c))) (diag (a1 m c)) (V3 m ρ c main_v6) (V3 m ρ c main_v7) 4)
          transposes_S8x256x64x256_S8x256x256x64_0_1_3_2 := by
    rw [← ew]
    show after hostOps2 (W4 m ρ c) (Proc.devRef .tc main_v21) = _
    after_results
  rw [e]; exact result_apply m ρ c 4 _ b h w o

end Cert.Value
-- ==== Proof.Ref.lean ====
/- The reference's five results read at an index: the nine taps' sum over the channels, normalised, through the activation. -/
module

public import proofs.«01_k».proof.Proof.Maths
public import proofs.«01_k».proof.Proof.Gen.ReferenceIdeal.Run
public import Idealize.ShloMosaic.Lib.StackMember

@[expose] public section

set_option maxRecDepth 16384

noncomputable section

namespace Cert.Ref

open Idealize.ShloMosaic Idealize.ShloMosaic.ValueIdx Idealize.ShloMosaic.TcCoe Idealize.ShloMosaic.StableHlo
open Cert.ReferenceIdeal Cert.ReferenceIdeal.Gen Cert.ReferenceIdeal.Value
open Cert.Value (img nat4 ker row col tap taps gelu gelu_erfc)

/-- The image padded with `d` zeros on each side and cut back at `(oy, ox)`: the padded image `img`, from `16 - d` on. -/
theorem slice_pad (n d oy ox : ℕ) (x : S8x256x256x64.Idx → EReal) (hd : d ≤ 16) (hn : n = 256 + 2 * d)
    (hp : S8x256x256x64.Pads (![0, d, d, 0] : Fin 4 → Nat) ![0, d, d, 0] ![0, 0, 0, 0] ⟨4, ![8, n, n, 64]⟩) (hu : 0 < S_.numel)
    (hs : (⟨4, ![8, n, n, 64]⟩ : Shape).Slices ![0, oy, ox, 0] S8x256x256x64) (b : Fin 8) (h w : Fin 256) (ch : Fin 64) :
    extractStridedSlice S8x256x256x64 ![0, oy, ox, 0]
        (pad ⟨4, ![8, n, n, 64]⟩ ![0, d, d, 0] ![0, d, d, 0] ![0, 0, 0, 0] x (constant (F := Ideal) S_ .f32 0x00000000#32) hp hu) hs (ix4 b h w ch)
      = img (nat4 x) b.val (16 + oy - d + h.val) (16 + ox - d + w.val) ch.val := by
  have hy : oy + 256 ≤ n := hs.2 1
  have hx : ox + 256 ≤ n := hs.2 2
  rw [extractStridedSlice_apply _ _ hs _ (ix4 b (⟨oy + h.val, by omega⟩ : Fin n) (⟨ox + w.val, by omega⟩ : Fin n) ch)
    (fun a => by
      match a with
      | ⟨0, _⟩ => exact (Nat.zero_add _).symm
      | ⟨1, _⟩ => rfl
      | ⟨2, _⟩ => rfl
      | ⟨3, _⟩ => exact (Nat.zero_add _).symm)]
  unfold pad img
  by_cases hin : (16 ≤ 16 + oy - d + h.val ∧ 16 + oy - d + h.val < 272) ∧ (16 ≤ 16 + ox - d + w.val ∧ 16 + ox - d + w.val < 272)
  · rw [if_pos hin, dif_pos (fun a => by
      match a with
      | ⟨0, _⟩ => exact ⟨Nat.zero_le _, Nat.mod_one _, by show (b.val - 0) / (0 + 1) < 8; have := b.isLt; omega⟩
      | ⟨1, _⟩ => exact ⟨by show d ≤ oy + h.val; omega, Nat.mod_one _, by show (oy + h.val - d) / (0 + 1) < 256; omega⟩
      | ⟨2, _⟩ => exact ⟨by show d ≤ ox + w.val; omega, Nat.mod_one _, by show (ox + w.val - d) / (0 + 1) < 256; omega⟩
      | ⟨3, _⟩ => exact ⟨Nat.zero_le _, Nat.mod_one _, by show (ch.val - 0) / (0 + 1) < 64; have := ch.isLt; omega⟩)]
    have e := Cert.Value.nat4_apply x b (⟨16 + oy - d + h.val - 16, by omega⟩ : Fin 256) (⟨16 + ox - d + w.val - 16, by omega⟩ : Fin 256) ch
    refine Eq.trans ?_ e.symm
    refine congrArg x (funext fun a => Fin.ext ?_)
    match a with
    | ⟨0, _⟩ => show (b.val - 0) / (0 + 1) = b.val; omega
    | ⟨1, _⟩ => show (oy + h.val - d) / (0 + 1) = 16 + oy - d + h.val - 16; omega
    | ⟨2, _⟩ => show (ox + w.val - d) / (0 + 1) = 16 + ox - d + w.val - 16; omega
    | ⟨3, _⟩ => show (ch.val - 0) / (0 + 1) = ch.val; omega
  · rw [if_neg hin, dif_neg (fun hall => hin ?_), constant_apply]
    · exact Ideal.ofBits_zero_f32
    · have h1 : d ≤ oy + h.val ∧ _ ∧ (oy + h.val - d) / (0 + 1) < 256 := hall 1
      have h2 : d ≤ ox + w.val ∧ _ ∧ (ox + w.val - d) / (0 + 1) < 256 := hall 2
      have := h1.1; have := h1.2.2; have := h2.1; have := h2.2.2
      omega

/-- One tap's matrix, cut out of the shared kernel. -/
theorem slice_ker (ky kx : ℕ) (k : S3x3x64x64.Idx → EReal) (hs : S3x3x64x64.Slices ![ky, kx, 0, 0] S1x1x64x64)
    (hc : S1x1x64x64.ShapeCasts S64x64) (t : ℕ) (ht : t = 3 * ky + kx) (i o : Fin 64) :
    shapeCast S64x64 (extractStridedSlice S1x1x64x64 ![ky, kx, 0, 0] k hs) hc (ix2 i o) = ker k t i.val o.val := by
  have hy : ky + 1 ≤ 3 := hs.2 0
  have hx : kx + 1 ≤ 3 := hs.2 1
  rw [shapeCast_apply _ hc (ix2 i o) (ix4 (0 : Fin 1) (0 : Fin 1) i o)
    (by rw [Shape.rowMajor_val_four, Shape.rowMajor_val_two]; simp)]
  rw [extractStridedSlice_apply _ _ hs _ (ix4 (⟨ky, by omega⟩ : Fin 3) (⟨kx, by omega⟩ : Fin 3) i o)
    (fun a => by
      match a with
      | ⟨0, _⟩ => rfl
      | ⟨1, _⟩ => rfl
      | ⟨2, _⟩ => exact (Nat.zero_add _).symm
      | ⟨3, _⟩ => exact (Nat.zero_add _).symm)]
  unfold ker
  have hi := i.isLt
  have ho := o.isLt
  rw [dif_pos ⟨by omega, hi, ho⟩]
  refine congrArg k (funext fun a => Fin.ext ?_)
  match a with
  | ⟨0, _⟩ => show ky = t / 3; omega
  | ⟨1, _⟩ => show kx = t % 3; omega
  | ⟨2, _⟩ => rfl
  | ⟨3, _⟩ => rfl

/-- A product over the channels, at an index. -/
theorem dot_apply (A : FVec Ideal S8x256x256x64 .f32) (B : FVec Ideal S64x64 .f32) (b : Fin 8) (h w : Fin 256) (o : Fin 64) :
    Host.dotGeneral (F := Ideal) (φ₁ := .f32) (φ₂ := .f32) dot_S8x256x256x64_S64x64_S8x256x256x64_3_0_012_1_n_n none A B (ix4 b h w o)
      = ∑ ch : Fin 64, A (ix4 b h w ch) * B (ix2 ch o) := by
  show FloatOps.dotGeneral _ none _ A B (ix4 b h w o) = _
  rw [Ideal.dotGeneral_apply, ← Equiv.sum_comp (contrEquiv1 dot_S8x256x256x64_S64x64_S8x256x256x64_3_0_012_1_n_n 64 rfl rfl).symm]
  refine Finset.sum_congr rfl fun c _ => ?_
  have c2 := contrEquiv1_symm_val dot_S8x256x256x64_S64x64_S8x256x256x64_3_0_012_1_n_n 64 rfl rfl c
  have l2 : dot_S8x256x256x64_S64x64_S8x256x256x64_3_0_012_1_n_n.lhsIdx (ix4 b h w o) ((contrEquiv1 _ 64 rfl rfl).symm c) = ix4 b h w c := by
    funext ax; apply Fin.ext
    match ax with
    | ⟨0, _⟩ => simp [DotDims.lhsIdx, dot_S8x256x256x64_S64x64_S8x256x256x64_3_0_012_1_n_n]; rfl
    | ⟨1, _⟩ => simp [DotDims.lhsIdx, dot_S8x256x256x64_S64x64_S8x256x256x64_3_0_012_1_n_n]; rfl
    | ⟨2, _⟩ => simp [DotDims.lhsIdx, dot_S8x256x256x64_S64x64_S8x256x256x64_3_0_012_1_n_n]; rfl
    | ⟨3, _⟩ => simp [DotDims.lhsIdx, dot_S8x256x256x64_S64x64_S8x256x256x64_3_0_012_1_n_n]; exact c2
  have r2 : dot_S8x256x256x64_S64x64_S8x256x256x64_3_0_012_1_n_n.rhsIdx (ix4 b h w o) ((contrEquiv1 _ 64 rfl rfl).symm c) = ix2 c o := by
    funext ax; apply Fin.ext
    match ax with
    | ⟨0, _⟩ => simp [DotDims.rhsIdx, dot_S8x256x256x64_S64x64_S8x256x256x64_3_0_012_1_n_n]; exact c2
    | ⟨1, _⟩ => simp [DotDims.rhsIdx, dot_S8x256x256x64_S64x64_S8x256x256x64_3_0_012_1_n_n]; rfl
  rw [l2, r2]

/-- One tap of one dilation, at an index. -/
theorem tap_apply (e t n d oy ox ky kx : ℕ) (x : S8x256x256x64.Idx → EReal) (k : S3x3x64x64.Idx → EReal)
    (hp : S8x256x256x64.Pads (![0, d, d, 0] : Fin 4 → Nat) ![0, d, d, 0] ![0, 0, 0, 0] ⟨4, ![8, n, n, 64]⟩) (hu : 0 < S_.numel)
    (hs : (⟨4, ![8, n, n, 64]⟩ : Shape).Slices ![0, oy, ox, 0] S8x256x256x64)
    (hsk : S3x3x64x64.Slices ![ky, kx, 0, 0] S1x1x64x64) (hc : S1x1x64x64.ShapeCasts S64x64)
    (hh : (d ≤ 16 ∧ n = 256 + 2 * d) ∧ t = 3 * ky + kx ∧ row t e = 16 + oy - d ∧ col t e = 16 + ox - d)
    (b : Fin 8) (h w : Fin 256) (o : Fin 64) :
    Host.dotGeneral (F := Ideal) (φ₁ := .f32) (φ₂ := .f32) dot_S8x256x256x64_S64x64_S8x256x256x64_3_0_012_1_n_n none
        (extractStridedSlice S8x256x256x64 ![0, oy, ox, 0]
          (pad ⟨4, ![8, n, n, 64]⟩ ![0, d, d, 0] ![0, d, d, 0] ![0, 0, 0, 0] x (constant (F := Ideal) S_ .f32 0x00000000#32) hp hu) hs)
        (shapeCast S64x64 (extractStridedSlice S1x1x64x64 ![ky, kx, 0, 0] k hsk) hc) (ix4 b h w o)
      = tap (nat4 x) k b.val e h.val w.val o.val t := by
  rw [dot_apply]
  unfold tap
  refine Finset.sum_congr rfl fun ch _ => ?_
  rw [slice_pad n d oy ox x hh.1.1 hh.1.2 hp hu hs, slice_ker ky kx k hsk hc t hh.2.1, hh.2.2.1, hh.2.2.2]

/-- One row of a table of per-channel parameters, spread over the pixels, at an index. -/
theorem spread_apply (i : ℕ) (hi : i < 5) (g : S5x64.Idx → EReal) (hs : S5x64.Slices ![i, 0] S1x64) (hc : S1x64.ShapeCasts S64)
    (h1 : S64.BroadcastsInDim S1x1x1x64 ![3]) (h2 : S1x1x1x64.BroadcastsInDim S8x256x256x64 ![0, 1, 2, 3])
    (b : Fin 8) (h w : Fin 256) (o : Fin 64) :
    broadcastInDim S8x256x256x64 ![0, 1, 2, 3] h2 (broadcastInDim S1x1x1x64 ![3] h1 (shapeCast S64 (extractStridedSlice S1x64 ![i, 0] g hs) hc))
        (ix4 b h w o) = g (ix2 (⟨i, hi⟩ : Fin 5) o) := by
  rw [broadcastInDim_apply _ h2 _ _ (ix4 (0 : Fin 1) (0 : Fin 1) (0 : Fin 1) o) (fun a => by
    match a with
    | ⟨0, _⟩ => rfl
    | ⟨1, _⟩ => rfl
    | ⟨2, _⟩ => rfl
    | ⟨3, _⟩ => rfl)]
  rw [broadcastInDim_apply _ h1 _ _ (ix1 o) (fun a => by
    match a with
    | ⟨0, _⟩ => rfl)]
  rw [shapeCast_apply _ hc (ix1 o) (ix2 (0 : Fin 1) o) (by rw [Shape.rowMajor_val_two, Shape.rowMajor_val_one]; simp)]
  rw [extractStridedSlice_apply _ _ hs _ (ix2 (⟨i, hi⟩ : Fin 5) o) (fun a => by
    match a with
    | ⟨0, _⟩ => rfl
    | ⟨1, _⟩ => exact (Nat.zero_add _).symm)]

/-- The value both programs leave at a pixel and an output channel, of the parameters' tables: the taps' sum, the mean taken off,
    scaled, the offset added, through the activation. -/
def refVal (x : S8x256x256x64.Idx → EReal) (k : S3x3x64x64.Idx → EReal) (sc be me : S5x64.Idx → EReal) (d : Fin 5)
    (b : Fin 8) (h w : Fin 256) (o : Fin 64) : EReal :=
  gelu ((taps (nat4 x) k b.val d.val h.val w.val o.val 8 - me (ix2 d o)) * sc (ix2 d o) + be (ix2 d o))

/-- The activation applied to an array, at an index. -/
theorem act_apply (z : Vec Ideal S8x256x256x64 .f32) (hb : S_.BroadcastsInDim S8x256x256x64 ![]) (j : S8x256x256x64.Idx) :
    mulf (F := Ideal) (φ := .f32) (mulf (φ := .f32) (broadcastInDim S8x256x256x64 ![] hb (constant (F := Ideal) S_ .f32 0x3F000000#32)) z)
      (Host.erfc (φ := .f32) (mulf (φ := .f32) (Host.negf (φ := .f32) z) (broadcastInDim S8x256x256x64 ![] hb (constant (F := Ideal) S_ .f32 0x3F3504F3#32)))) j
      = gelu (z j) := gelu_erfc (z j)

/-- The normalised sum at dilation 1, at an index. -/
theorem norm_0 (V0 : Valuation τ sig (Elt Ideal)) (b : Fin 8) (h w : Fin 256) (o : Fin 64) :
    (res_main_v63 V0 : Vec Ideal S8x256x256x64 .f32) (ix4 b h w o)
      = (taps (nat4 (V0 (Proc.devRef .tc main_arg0))) (V0 (Proc.devRef .tc main_arg1)) b.val 0 h.val w.val o.val 8
          - (V0 (Proc.devRef .tc main_arg4) : Vec Ideal S5x64 .f32) (ix2 (0 : Fin 5) o)) * (res_main_v3 V0 : Vec Ideal S5x64 .f32) (ix2 (0 : Fin 5) o)
        + (V0 (Proc.devRef .tc main_arg3) : Vec Ideal S5x64 .f32) (ix2 (0 : Fin 5) o) := by
  unfold res_main_v63 res_main_v4
  rw [addf_apply, mulf_apply, subf_apply, spread_apply 0 (by decide), spread_apply 0 (by decide), spread_apply 0 (by decide)]
  rw [addf_apply, addf_apply, addf_apply, addf_apply, addf_apply, addf_apply, addf_apply, addf_apply]
  rw [tap_apply 0 0 258 1 0 0 0 0 (hh := by decide),
    tap_apply 0 1 258 1 0 1 0 1 (hh := by decide),
    tap_apply 0 2 258 1 0 2 0 2 (hh := by decide),
    tap_apply 0 3 258 1 1 0 1 0 (hh := by decide),
    tap_apply 0 4 258 1 1 1 1 1 (hh := by decide),
    tap_apply 0 5 258 1 1 2 1 2 (hh := by decide),
    tap_apply 0 6 258 1 2 0 2 0 (hh := by decide),
    tap_apply 0 7 258 1 2 1 2 1 (hh := by decide),
    tap_apply 0 8 258 1 2 2 2 2 (hh := by decide)]
  rfl

/-- The normalised sum at dilation 2, at an index. -/
theorem norm_1 (V0 : Valuation τ sig (Elt Ideal)) (b : Fin 8) (h w : Fin 256) (o : Fin 64) :
    (res_main_v130 V0 : Vec Ideal S8x256x256x64 .f32) (ix4 b h w o)
      = (taps (nat4 (V0 (Proc.devRef .tc main_arg0))) (V0 (Proc.devRef .tc main_arg1)) b.val 1 h.val w.val o.val 8
          - (V0 (Proc.devRef .tc main_arg4) : Vec Ideal S5x64 .f32) (ix2 (1 : Fin 5) o)) * (res_main_v3 V0 : Vec Ideal S5x64 .f32) (ix2 (1 : Fin 5) o)
        + (V0 (Proc.devRef .tc main_arg3) : Vec Ideal S5x64 .f32) (ix2 (1 : Fin 5) o) := by
  unfold res_main_v130 res_main_v71
  rw [addf_apply, mulf_apply, subf_apply, spread_apply 1 (by decide), spread_apply 1 (by decide), spread_apply 1 (by decide)]
  rw [addf_apply, addf_apply, addf_apply, addf_apply, addf_apply, addf_apply, addf_apply, addf_apply]
  rw [tap_apply 1 0 260 2 0 0 0 0 (hh := by decide),
    tap_apply 1 1 260 2 0 2 0 1 (hh := by decide),
    tap_apply 1 2 260 2 0 4 0 2 (hh := by decide),
    tap_apply 1 3 260 2 2 0 1 0 (hh := by decide),
    tap_apply 1 4 260 2 2 2 1 1 (hh := by decide),
    tap_apply 1 5 260 2 2 4 1 2 (hh := by decide),
    tap_apply 1 6 260 2 4 0 2 0 (hh := by decide),
    tap_apply 1 7 260 2 4 2 2 1 (hh := by decide),
    tap_apply 1 8 260 2 4 4 2 2 (hh := by decide)]
  rfl

/-- The normalised sum at dilation 4, at an index. -/
theorem norm_2 (V0 : Valuation τ sig (Elt Ideal)) (b : Fin 8) (h w : Fin 256) (o : Fin 64) :
    (res_main_v197 V0 : Vec Ideal S8x256x256x64 .f32) (ix4 b h w o)
      = (taps (nat4 (V0 (Proc.devRef .tc main_arg0))) (V0 (Proc.devRef .tc main_arg1)) b.val 2 h.val w.val o.val 8
          - (V0 (Proc.devRef .tc main_arg4) : Vec Ideal S5x64 .f32) (ix2 (2 : Fin 5) o)) * (res_main_v3 V0 : Vec Ideal S5x64 .f32) (ix2 (2 : Fin 5) o)
        + (V0 (Proc.devRef .tc main_arg3) : Vec Ideal S5x64 .f32) (ix2 (2 : Fin 5) o) := by
  unfold res_main_v197 res_main_v138
  rw [addf_apply, mulf_apply, subf_apply, spread_apply 2 (by decide), spread_apply 2 (by decide), spread_apply 2 (by decide)]
  rw [addf_apply, addf_apply, addf_apply, addf_apply, addf_apply, addf_apply, addf_apply, addf_apply]
  rw [tap_apply 2 0 264 4 0 0 0 0 (hh := by decide),
    tap_apply 2 1 264 4 0 4 0 1 (hh := by decide),
    tap_apply 2 2 264 4 0 8 0 2 (hh := by decide),
    tap_apply 2 3 264 4 4 0 1 0 (hh := by decide),
    tap_apply 2 4 264 4 4 4 1 1 (hh := by decide),
    tap_apply 2 5 264 4 4 8 1 2 (hh := by decide),
    tap_apply 2 6 264 4 8 0 2 0 (hh := by decide),
    tap_apply 2 7 264 4 8 4 2 1 (hh := by decide),
    tap_apply 2 8 264 4 8 8 2 2 (hh := by decide)]
  rfl

/-- The normalised sum at dilation 8, at an index. -/
theorem norm_3 (V0 : Valuation τ sig (Elt Ideal)) (b : Fin 8) (h w : Fin 256) (o : Fin 64) :
    (res_main_v264 V0 : Vec Ideal S8x256x256x64 .f32) (ix4 b h w o)
      = (taps (nat4 (V0 (Proc.devRef .tc main_arg0))) (V0 (Proc.devRef .tc main_arg1)) b.val 3 h.val w.val o.val 8
          - (V0 (Proc.devRef .tc main_arg4) : Vec Ideal S5x64 .f32) (ix2 (3 : Fin 5) o)) * (res_main_v3 V0 : Vec Ideal S5x64 .f32) (ix2 (3 : Fin 5) o)
        + (V0 (Proc.devRef .tc main_arg3) : Vec Ideal S5x64 .f32) (ix2 (3 : Fin 5) o) := by
  unfold res_main_v264 res_main_v205
  rw [addf_apply, mulf_apply, subf_apply, spread_apply 3 (by decide), spread_apply 3 (by decide), spread_apply 3 (by decide)]
  rw [addf_apply, addf_apply, addf_apply, addf_apply, addf_apply, addf_apply, addf_apply, addf_apply]
  rw [tap_apply 3 0 272 8 0 0 0 0 (hh := by decide),
    tap_apply 3 1 272 8 0 8 0 1 (hh := by decide),
    tap_apply 3 2 272 8 0 16 0 2 (hh := by decide),
    tap_apply 3 3 272 8 8 0 1 0 (hh := by decide),
    tap_apply 3 4 272 8 8 8 1 1 (hh := by decide),
    tap_apply 3 5 272 8 8 16 1 2 (hh := by decide),
    tap_apply 3 6 272 8 16 0 2 0 (hh := by decide),
    tap_apply 3 7 272 8 16 8 2 1 (hh := by decide),
    tap_apply 3 8 272 8 16 16 2 2 (hh := by decide)]
  rfl

/-- The normalised sum at dilation 16, at an index. -/
theorem norm_4 (V0 : Valuation τ sig (Elt Ideal)) (b : Fin 8) (h w : Fin 256) (o : Fin 64) :
    (res_main_v331 V0 : Vec Ideal S8x256x256x64 .f32) (ix4 b h w o)
      = (taps (nat4 (V0 (Proc.devRef .tc main_arg0))) (V0 (Proc.devRef .tc main_arg1)) b.val 4 h.val w.val o.val 8
          - (V0 (Proc.devRef .tc main_arg4) : Vec Ideal S5x64 .f32) (ix2 (4 : Fin 5) o)) * (res_main_v3 V0 : Vec Ideal S5x64 .f32) (ix2 (4 : Fin 5) o)
        + (V0 (Proc.devRef .tc main_arg3) : Vec Ideal S5x64 .f32) (ix2 (4 : Fin 5) o) := by
  unfold res_main_v331 res_main_v272
  rw [addf_apply, mulf_apply, subf_apply, spread_apply 4 (by decide), spread_apply 4 (by decide), spread_apply 4 (by decide)]
  rw [addf_apply, addf_apply, addf_apply, addf_apply, addf_apply, addf_apply, addf_apply, addf_apply]
  rw [tap_apply 4 0 288 16 0 0 0 0 (hh := by decide),
    tap_apply 4 1 288 16 0 16 0 1 (hh := by decide),
    tap_apply 4 2 288 16 0 32 0 2 (hh := by decide),
    tap_apply 4 3 288 16 16 0 1 0 (hh := by decide),
    tap_apply 4 4 288 16 16 16 1 1 (hh := by decide),
    tap_apply 4 5 288 16 16 32 1 2 (hh := by decide),
    tap_apply 4 6 288 16 32 0 2 0 (hh := by decide),
    tap_apply 4 7 288 16 32 16 2 1 (hh := by decide),
    tap_apply 4 8 288 16 32 32 2 2 (hh := by decide)]
  rfl

end Cert.Ref
-- ==== Proof.lean ====
/- Every claim of the certificate. The frames of the program and of its idealization are the launches' own; the reference's is its run,
   and it declares no semaphore. The value claim reads both programs' five results at an index: the kernel's (Proof/Host.lean) and the
   reference's (Proof/Ref.lean) differ only in the form of the normalisation, which agree where the scale and the mean are finite. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_normalisation_finite
public import proofs.«01_k».proof.Proof.Results
public import proofs.«01_k».proof.Proof.Host
public import proofs.«01_k».proof.Proof.Ref
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.ShloMosaic.ValueIdx Idealize.SL.Sem
open Cert.Value (scaleOf kerVal nat4 taps gelu norm_eq)

/-- A value whose magnitude compares below positive infinity is neither infinity. -/
theorem finite_of_cmp (x : EReal) (h : Ideal.cmp .olt (max x (-x)) (Ideal.ofBits .f32 0x7F800000#32) = 1#1) : x ≠ ⊥ ∧ x ≠ ⊤ := by
  rw [show Ideal.ofBits .f32 0x7F800000#32 = ⊤ by simp [Ideal.ofBits, Ideal.ieee]] at h
  refine ⟨fun hx => ?_, fun hx => ?_⟩ <;> subst hx <;> simp [Ideal.cmp] at h

/-- Of two bits whose conjunction is set, both are set. -/
theorem and_set : ∀ a b : BitVec 1, a &&& b = 1#1 → a = 1#1 ∧ b = 1#1 := by decide

/-- Under the precondition every scale and every mean is finite. -/
theorem pre_finite (m : (ℓ : Loc Cert.KernelIdeal.nD Cert.KernelIdeal.τ Cert.KernelIdeal.sig) → Buf (Elt Ideal) ℓ)
    (h : Cert.Pre_KernelIdeal_normalisation_finite m) (c : Dev Cert.KernelIdeal.nD) (j : Cert.KernelIdeal.S5x64.Idx) :
    (scaleOf (Cert.Value.a2 m c) (Cert.Value.a5 m c) j ≠ ⊥ ∧ scaleOf (Cert.Value.a2 m c) (Cert.Value.a5 m c) j ≠ ⊤)
      ∧ (Cert.Value.a4 m c j ≠ ⊥ ∧ Cert.Value.a4 m c j ≠ ⊤) := by
  have hj := congrFun (h c) j
  have hb := and_set _ _ hj
  exact ⟨finite_of_cmp _ hb.1, finite_of_cmp _ hb.2⟩

section Agree

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The two memories hold the same arguments on device `c`. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- The reference's normalised sum, through the activation, is the kernel's value: the arguments are the same, and the scale and the
    mean are finite. -/
theorem value_agree (c : Dev Cert.KernelIdeal.nD) (hs : Same m m' c) (hp : Cert.Pre_KernelIdeal_normalisation_finite m) (d : Fin 5)
    (b : Fin 8) (h w : Fin 256) (o : Fin 64) (z : EReal)
    (hz : z = (taps (nat4 (StableHlo.launchContents m' c (Proc.devRef .tc Cert.ReferenceIdeal.main_arg0)))
            (StableHlo.launchContents m' c (Proc.devRef .tc Cert.ReferenceIdeal.main_arg1)) b.val d.val h.val w.val o.val 8
          - (StableHlo.launchContents m' c (Proc.devRef .tc Cert.ReferenceIdeal.main_arg4) : Vec Ideal Cert.ReferenceIdeal.S5x64 .f32) (ix2 d o))
          * (Cert.ReferenceIdeal.Value.res_main_v3 (StableHlo.launchContents m' c) : Vec Ideal Cert.ReferenceIdeal.S5x64 .f32) (ix2 d o)
        + (StableHlo.launchContents m' c (Proc.devRef .tc Cert.ReferenceIdeal.main_arg3) : Vec Ideal Cert.ReferenceIdeal.S5x64 .f32) (ix2 d o)) :
    gelu z = kerVal m c d b h w o := by
  obtain ⟨h0, h1, h2, h3, h4, h5⟩ := hs
  have e0 : StableHlo.launchContents m' c (Proc.devRef .tc Cert.ReferenceIdeal.main_arg0) = Cert.Value.a0 m c := h0
  have e1 : StableHlo.launchContents m' c (Proc.devRef .tc Cert.ReferenceIdeal.main_arg1) = Cert.Value.a1 m c := h1
  have e2 : StableHlo.launchContents m' c (Proc.devRef .tc Cert.ReferenceIdeal.main_arg2) = Cert.Value.a2 m c := h2
  have e3 : StableHlo.launchContents m' c (Proc.devRef .tc Cert.ReferenceIdeal.main_arg3) = Cert.Value.a3 m c := h3
  have e4 : StableHlo.launchContents m' c (Proc.devRef .tc Cert.ReferenceIdeal.main_arg4) = Cert.Value.a4 m c := h4
  have e5 : StableHlo.launchContents m' c (Proc.devRef .tc Cert.ReferenceIdeal.main_arg5) = Cert.Value.a5 m c := h5
  have es : Cert.ReferenceIdeal.Value.res_main_v3 (StableHlo.launchContents m' c) = scaleOf (Cert.Value.a2 m c) (Cert.Value.a5 m c) := by
    unfold Cert.ReferenceIdeal.Value.res_main_v3
    rw [e2, e5]
    rfl
  rw [e0, e1, e3, e4, es] at hz
  have hf := pre_finite m hp c (ix2 d o)
  rw [hz, norm_eq _ _ _ _ hf.1 hf.2]
  rfl

/-- Result 1 of the two programs. -/
theorem agree_0 (c : Dev Cert.KernelIdeal.nD) (hs : Same m m' c) (hp : Cert.Pre_KernelIdeal_normalisation_finite m) :
    mulf (mulf (broadcastInDim Cert.ReferenceIdeal.S8x256x256x64 ![] Cert.ReferenceIdeal.Gen.bcast_S_S8x256x256x64 (constant (F := Ideal) Cert.ReferenceIdeal.S_ .f32 0x3F000000#32)) (Cert.ReferenceIdeal.Value.res_main_v63 (StableHlo.launchContents m' c)))
        (Host.erfc (mulf (Host.negf (Cert.ReferenceIdeal.Value.res_main_v63 (StableHlo.launchContents m' c))) (broadcastInDim Cert.ReferenceIdeal.S8x256x256x64 ![] Cert.ReferenceIdeal.Gen.bcast_S_S8x256x256x64 (constant Cert.ReferenceIdeal.S_ .f32 0x3F3504F3#32))))
      = Cert.KernelIdeal.Gen.W5 m ρ c (Proc.devRef .tc Cert.KernelIdeal.main_v17) := by
  funext j
  obtain ⟨b, h, w, o, rfl⟩ : ∃ (b : Fin 8) (h w : Fin 256) (o : Fin 64), j = ix4 b h w o := ⟨_, _, _, _, eq_ix4 j⟩
  exact (Cert.Ref.act_apply _ _ _).trans ((value_agree m m' c hs hp 0 b h w o _ (Cert.Ref.norm_0 (StableHlo.launchContents m' c) b h w o)).trans
    (Cert.Value.kernel_0 m ρ c b h w o).symm)

/-- Result 2 of the two programs. -/
theorem agree_1 (c : Dev Cert.KernelIdeal.nD) (hs : Same m m' c) (hp : Cert.Pre_KernelIdeal_normalisation_finite m) :
    mulf (mulf (broadcastInDim Cert.ReferenceIdeal.S8x256x256x64 ![] Cert.ReferenceIdeal.Gen.bcast_S_S8x256x256x64 (constant (F := Ideal) Cert.ReferenceIdeal.S_ .f32 0x3F000000#32)) (Cert.ReferenceIdeal.Value.res_main_v130 (StableHlo.launchContents m' c)))
        (Host.erfc (mulf (Host.negf (Cert.ReferenceIdeal.Value.res_main_v130 (StableHlo.launchContents m' c))) (broadcastInDim Cert.ReferenceIdeal.S8x256x256x64 ![] Cert.ReferenceIdeal.Gen.bcast_S_S8x256x256x64 (constant Cert.ReferenceIdeal.S_ .f32 0x3F3504F3#32))))
      = Cert.KernelIdeal.Gen.W5 m ρ c (Proc.devRef .tc Cert.KernelIdeal.main_v18) := by
  funext j
  obtain ⟨b, h, w, o, rfl⟩ : ∃ (b : Fin 8) (h w : Fin 256) (o : Fin 64), j = ix4 b h w o := ⟨_, _, _, _, eq_ix4 j⟩
  exact (Cert.Ref.act_apply _ _ _).trans ((value_agree m m' c hs hp 1 b h w o _ (Cert.Ref.norm_1 (StableHlo.launchContents m' c) b h w o)).trans
    (Cert.Value.kernel_1 m ρ c b h w o).symm)

/-- Result 3 of the two programs. -/
theorem agree_2 (c : Dev Cert.KernelIdeal.nD) (hs : Same m m' c) (hp : Cert.Pre_KernelIdeal_normalisation_finite m) :
    mulf (mulf (broadcastInDim Cert.ReferenceIdeal.S8x256x256x64 ![] Cert.ReferenceIdeal.Gen.bcast_S_S8x256x256x64 (constant (F := Ideal) Cert.ReferenceIdeal.S_ .f32 0x3F000000#32)) (Cert.ReferenceIdeal.Value.res_main_v197 (StableHlo.launchContents m' c)))
        (Host.erfc (mulf (Host.negf (Cert.ReferenceIdeal.Value.res_main_v197 (StableHlo.launchContents m' c))) (broadcastInDim Cert.ReferenceIdeal.S8x256x256x64 ![] Cert.ReferenceIdeal.Gen.bcast_S_S8x256x256x64 (constant Cert.ReferenceIdeal.S_ .f32 0x3F3504F3#32))))
      = Cert.KernelIdeal.Gen.W5 m ρ c (Proc.devRef .tc Cert.KernelIdeal.main_v19) := by
  funext j
  obtain ⟨b, h, w, o, rfl⟩ : ∃ (b : Fin 8) (h w : Fin 256) (o : Fin 64), j = ix4 b h w o := ⟨_, _, _, _, eq_ix4 j⟩
  exact (Cert.Ref.act_apply _ _ _).trans ((value_agree m m' c hs hp 2 b h w o _ (Cert.Ref.norm_2 (StableHlo.launchContents m' c) b h w o)).trans
    (Cert.Value.kernel_2 m ρ c b h w o).symm)

/-- Result 4 of the two programs. -/
theorem agree_3 (c : Dev Cert.KernelIdeal.nD) (hs : Same m m' c) (hp : Cert.Pre_KernelIdeal_normalisation_finite m) :
    mulf (mulf (broadcastInDim Cert.ReferenceIdeal.S8x256x256x64 ![] Cert.ReferenceIdeal.Gen.bcast_S_S8x256x256x64 (constant (F := Ideal) Cert.ReferenceIdeal.S_ .f32 0x3F000000#32)) (Cert.ReferenceIdeal.Value.res_main_v264 (StableHlo.launchContents m' c)))
        (Host.erfc (mulf (Host.negf (Cert.ReferenceIdeal.Value.res_main_v264 (StableHlo.launchContents m' c))) (broadcastInDim Cert.ReferenceIdeal.S8x256x256x64 ![] Cert.ReferenceIdeal.Gen.bcast_S_S8x256x256x64 (constant Cert.ReferenceIdeal.S_ .f32 0x3F3504F3#32))))
      = Cert.KernelIdeal.Gen.W5 m ρ c (Proc.devRef .tc Cert.KernelIdeal.main_v20) := by
  funext j
  obtain ⟨b, h, w, o, rfl⟩ : ∃ (b : Fin 8) (h w : Fin 256) (o : Fin 64), j = ix4 b h w o := ⟨_, _, _, _, eq_ix4 j⟩
  exact (Cert.Ref.act_apply _ _ _).trans ((value_agree m m' c hs hp 3 b h w o _ (Cert.Ref.norm_3 (StableHlo.launchContents m' c) b h w o)).trans
    (Cert.Value.kernel_3 m ρ c b h w o).symm)

/-- Result 5 of the two programs. -/
theorem agree_4 (c : Dev Cert.KernelIdeal.nD) (hs : Same m m' c) (hp : Cert.Pre_KernelIdeal_normalisation_finite m) :
    mulf (mulf (broadcastInDim Cert.ReferenceIdeal.S8x256x256x64 ![] Cert.ReferenceIdeal.Gen.bcast_S_S8x256x256x64 (constant (F := Ideal) Cert.ReferenceIdeal.S_ .f32 0x3F000000#32)) (Cert.ReferenceIdeal.Value.res_main_v331 (StableHlo.launchContents m' c)))
        (Host.erfc (mulf (Host.negf (Cert.ReferenceIdeal.Value.res_main_v331 (StableHlo.launchContents m' c))) (broadcastInDim Cert.ReferenceIdeal.S8x256x256x64 ![] Cert.ReferenceIdeal.Gen.bcast_S_S8x256x256x64 (constant Cert.ReferenceIdeal.S_ .f32 0x3F3504F3#32))))
      = Cert.KernelIdeal.Gen.W5 m ρ c (Proc.devRef .tc Cert.KernelIdeal.main_v21) := by
  funext j
  obtain ⟨b, h, w, o, rfl⟩ : ∃ (b : Fin 8) (h w : Fin 256) (o : Fin 64), j = ix4 b h w o := ⟨_, _, _, _, eq_ix4 j⟩
  exact (Cert.Ref.act_apply _ _ _).trans ((value_agree m m' c hs hp 4 b h w o _ (Cert.Ref.norm_4 (StableHlo.launchContents m' c) b h w o)).trans
    (Cert.Value.kernel_4 m ρ c b h w o).symm)

end Agree

/-- The reference runs, its arguments end unchanged, and it declares no semaphore. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- From the same arguments, with every scale and every mean finite, the two programs leave the same five results. -/
theorem algebraic : Cert.algebraic_KernelIdeal_ReferenceIdeal_pre_normalisation_finite := by
  intro m ρ m' ρ' hp hs
  refine ⟨fun c => Cert.KernelIdeal.Gen.W5 m ρ c (Proc.devRef .tc Cert.KernelIdeal.main_v17),
    fun c => Cert.KernelIdeal.Gen.W5 m ρ c (Proc.devRef .tc Cert.KernelIdeal.main_v18),
    fun c => Cert.KernelIdeal.Gen.W5 m ρ c (Proc.devRef .tc Cert.KernelIdeal.main_v19),
    fun c => Cert.KernelIdeal.Gen.W5 m ρ c (Proc.devRef .tc Cert.KernelIdeal.main_v20),
    fun c => Cert.KernelIdeal.Gen.W5 m ρ c (Proc.devRef .tc Cert.KernelIdeal.main_v21),
    Cert.KernelIdeal.Gen.results m ρ, ?_⟩
  exact (θ_run Cert.ReferenceIdeal.defs _ _).mono (fun r h c => ⟨(h c).1.trans (agree_0 m ρ m' c (hs c) hp),
      (h c).2.1.trans (agree_1 m ρ m' c (hs c) hp),
      (h c).2.2.1.trans (agree_2 m ρ m' c (hs c) hp),
      (h c).2.2.2.1.trans (agree_3 m ρ m' c (hs c) hp),
      (h c).2.2.2.2.1.trans (agree_4 m ρ m' c (hs c) hp),
      (h c).2.2.2.2.2⟩)
    (Cert.ReferenceIdeal.Value.run (F := Ideal) m' ρ')

/-- The certificate: the frames of the three programs, the idealization's own claim, and the equality of the five results. -/
theorem claim : Cert.Claim := ⟨Cert.Kernel.Gen.facts, Cert.KernelIdeal.Gen.facts, Cert.ReferenceIdeal.Gen.facts, Cert.Pre_normalisation_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
